-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_fit [hPre_boxes_fit : Cert.Pre_boxes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_fit [hPre_boxes_fit : Cert.Pre_boxes_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_boxes_fit [hKernelIdeal : Cert.KernelIdeal.Facts] [hPre_boxes_fit : Cert.Pre_boxes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_boxes_fit [hReferenceIdeal : Cert.ReferenceIdeal.Facts] [hPre_boxes_fit : Cert.Pre_boxes_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_boxes_fit [hKernelIdeal : Cert.KernelIdeal.Facts] [hReferenceIdeal : Cert.ReferenceIdeal.Facts] [hPre_boxes_fit : Cert.Pre_boxes_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_boxes_fit : Cert.Pre_boxes_fit.Facts),
    quiescent_Kernel (hKernel := hKernel)
    ∧ quiescent_KernelIdeal (hKernelIdeal := hKernelIdeal)
    ∧ quiescent_KernelIdeal_pre_boxes_fit (hKernelIdeal := hKernelIdeal) (hPre_boxes_fit := hPre_boxes_fit)
    ∧ quiescent_ReferenceIdeal (hReferenceIdeal := hReferenceIdeal)
    ∧ quiescent_ReferenceIdeal_pre_boxes_fit (hReferenceIdeal := hReferenceIdeal) (hPre_boxes_fit := hPre_boxes_fit)
    ∧ preserves_Kernel_KernelIdeal
    ∧ algebraic_KernelIdeal_ReferenceIdeal_pre_boxes_fit (hKernelIdeal := hKernelIdeal) (hReferenceIdeal := hReferenceIdeal) (hPre_boxes_fit := hPre_boxes_fit)
-- ==== Pre_boxes_fit.lean ====
abbrev S2x512x50x64 : Shape := ⟨4, ![2, 512, 50, 64]⟩
abbrev S2x128x4 : Shape := ⟨3, ![2, 128, 4]⟩
abbrev S2x128x1 : Shape := ⟨3, ![2, 128, 1]⟩
abbrev S2x128 : Shape := ⟨2, ![2, 128]⟩
abbrev S_ : Shape := ⟨0, ![]⟩

class Facts : Prop where
  slices_S2x128x4_S2x128x1_0_0_2 : S2x128x4.Slices ![0, 0, 2] S2x128x1
  shapeCasts_S2x128x1_S2x128 : S2x128x1.ShapeCasts S2x128
  slices_S2x128x4_S2x128x1_0_0_0 : S2x128x4.Slices ![0, 0, 0] S2x128x1
  bcast_S_S2x128 : S_.BroadcastsInDim S2x128 (![] : Fin 0 → Fin S2x128.rank)
  slices_S2x128x4_S2x128x1_0_0_1 : S2x128x4.Slices ![0, 0, 1] S2x128x1
  slices_S2x128x4_S2x128x1_0_0_3 : S2x128x4.Slices ![0, 0, 3] S2x128x1
  reducesTo_S2x128_S_d0_1 : S2x128.ReducesTo [0, 1] S_
  h_S_ : 0 < S_.numel

variable [Facts]

def fn_part1 {F : FTy → Type} [FloatOps F] (main_v20 : IVec S2x128 1) (main_c : IVec S_ 1) : IVec S_ 1 :=
  let main_v21 : IVec S_ 1 := (fun x v => Host.reduce IntOp.andi x v reducesTo_S2x128_S_d0_1 h_S_) main_v20 main_c
  main_v21

def fn {F : FTy → Type} [FloatOps F] (main_arg0 : FVec F S2x512x50x64 .f32) (main_arg1 : FVec F S2x128x4 .f32) : IVec S_ 1 :=
  let main_v0 : FVec F S2x128x1 .f32 := (extractStridedSlice S2x128x1 ![0, 0, 2] · slices_S2x128x4_S2x128x1_0_0_2) main_arg1
  let main_v1 : FVec F S2x128 .f32 := shapeCast S2x128 main_v0 shapeCasts_S2x128x1_S2x128
  let main_v2 : FVec F S2x128x1 .f32 := (extractStridedSlice S2x128x1 ![0, 0, 0] · slices_S2x128x4_S2x128x1_0_0_0) main_arg1
  let main_v3 : FVec F S2x128 .f32 := shapeCast S2x128 main_v2 shapeCasts_S2x128x1_S2x128
  let main_cst : FVec F S_ .f32 := constant S_ .f32 0x43000000#32
  let main_v4 : FVec F S2x128 .f32 := broadcastInDim S2x128 ![] bcast_S_S2x128 main_cst
  let main_v5 : FVec F S2x128 .f32 := addf main_v3 main_v4
  let main_v6 : IVec S2x128 1 := cmpf .ole main_v1 main_v5
  let main_v7 : FVec F S2x128x1 .f32 := (extractStridedSlice S2x128x1 ![0, 0, 1] · slices_S2x128x4_S2x128x1_0_0_1) main_arg1
  let main_v8 : FVec F S2x128 .f32 := shapeCast S2x128 main_v7 shapeCasts_S2x128x1_S2x128
  let main_v9 : FVec F S2x128x1 .f32 := (extractStridedSlice S2x128x1 ![0, 0, 3] · slices_S2x128x4_S2x128x1_0_0_3) main_arg1
  let main_v10 : FVec F S2x128 .f32 := shapeCast S2x128 main_v9 shapeCasts_S2x128x1_S2x128
  let main_v11 : IVec S2x128 1 := cmpf .olt main_v8 main_v10
  let main_v12 : FVec F S2x128x1 .f32 := (extractStridedSlice S2x128x1 ![0, 0, 3] · slices_S2x128x4_S2x128x1_0_0_3) main_arg1
  let main_v13 : FVec F S2x128 .f32 := shapeCast S2x128 main_v12 shapeCasts_S2x128x1_S2x128
  let main_v14 : FVec F S2x128x1 .f32 := (extractStridedSlice S2x128x1 ![0, 0, 1] · slices_S2x128x4_S2x128x1_0_0_1) main_arg1
  let main_v15 : FVec F S2x128 .f32 := shapeCast S2x128 main_v14 shapeCasts_S2x128x1_S2x128
  let main_cst_0 : FVec F S_ .f32 := constant S_ .f32 0x42C00000#32
  let main_v16 : FVec F S2x128 .f32 := broadcastInDim S2x128 ![] bcast_S_S2x128 main_cst_0
  let main_v17 : FVec F S2x128 .f32 := addf main_v15 main_v16
  let main_v18 : IVec S2x128 1 := cmpf .ole main_v13 main_v17
  let main_v19 : IVec S2x128 1 := andi main_v11 main_v18
  let main_v20 : IVec S2x128 1 := andi main_v6 main_v19
  let main_c : IVec S_ 1 := constantI S_ 1 1#1
  fn_part1 (F := F) main_v20 main_c
-- ==== Kernel.lean ====
abbrev S2x512x50x64 : Shape := ⟨4, ![2, 512, 50, 64]⟩
abbrev S2x128x4 : Shape := ⟨3, ![2, 128, 4]⟩
abbrev S4 : Shape := ⟨1, ![4]⟩
abbrev S1x1x4 : Shape := ⟨3, ![1, 1, 4]⟩
abbrev S2x128x1 : Shape := ⟨3, ![2, 128, 1]⟩
abbrev S2x128 : Shape := ⟨2, ![2, 128]⟩
abbrev S_ : Shape := ⟨0, ![]⟩
abbrev S7 : Shape := ⟨1, ![7]⟩
abbrev S1x1x7 : Shape := ⟨3, ![1, 1, 7]⟩
abbrev S2x128x7 : Shape := ⟨3, ![2, 128, 7]⟩
abbrev S2x128x16 : Shape := ⟨3, ![2, 128, 16]⟩
abbrev S2x512x3200 : Shape := ⟨3, ![2, 512, 3200]⟩
abbrev S2x3200x512 : Shape := ⟨3, ![2, 3200, 512]⟩
abbrev S2x128x512 : Shape := ⟨3, ![2, 128, 512]⟩
abbrev S1x3200x512 : Shape := ⟨3, ![1, 3200, 512]⟩
abbrev S1x128x512 : Shape := ⟨3, ![1, 128, 512]⟩
abbrev S16x1 : Shape := ⟨2, ![16, 1]⟩
abbrev S1x1x1 : Shape := ⟨3, ![1, 1, 1]⟩
abbrev S1x16x512 : Shape := ⟨3, ![1, 16, 512]⟩
abbrev S16x512 : Shape := ⟨2, ![16, 512]⟩
abbrev S512 : Shape := ⟨1, ![512]⟩
abbrev S1x512 : Shape := ⟨2, ![1, 512]⟩
abbrev S1x1x512 : Shape := ⟨3, ![1, 1, 512]⟩

abbrev nBuf : Space → Nat
  | .hbm => 146
  | .vmem => 4
  | .smem => 1
  | _ => 0

abbrev hbmTy0_0 (i : Nat) : BufTy := match i % 128 with
  | 0 => ⟨S2x512x50x64, .f32⟩
  | 1 => ⟨S2x128x4, .f32⟩
  | 2 => ⟨S4, .f32⟩
  | 3 => ⟨S1x1x4, .f32⟩
  | 4 => ⟨S2x128x4, .f32⟩
  | 5 => ⟨S2x128x4, .f32⟩
  | 6 => ⟨S2x128x1, .f32⟩
  | 7 => ⟨S2x128, .f32⟩
  | 8 => ⟨S_, .f32⟩
  | 9 => ⟨S2x128, .f32⟩
  | 10 => ⟨S2x128, .f32⟩
  | 11 => ⟨S2x128, .f32⟩
  | 12 => ⟨S2x128, .i32⟩
  | 13 => ⟨S_, .i32⟩
  | 14 => ⟨S_, .i32⟩
  | 15 => ⟨S2x128, .i32⟩
  | 16 => ⟨S2x128, .i32⟩
  | 17 => ⟨S2x128x1, .f32⟩
  | 18 => ⟨S2x128, .f32⟩
  | 19 => ⟨S_, .f32⟩
  | 20 => ⟨S2x128, .f32⟩
  | 21 => ⟨S2x128, .f32⟩
  | 22 => ⟨S2x128, .f32⟩
  | 23 => ⟨S2x128, .i32⟩
  | 24 => ⟨S_, .i32⟩
  | 25 => ⟨S_, .i32⟩
  | 26 => ⟨S2x128, .i32⟩
  | 27 => ⟨S2x128, .i32⟩
  | 28 => ⟨S2x128x1, .f32⟩
  | 29 => ⟨S2x128, .f32⟩
  | 30 => ⟨S_, .f32⟩
  | 31 => ⟨S2x128, .f32⟩
  | 32 => ⟨S2x128, .f32⟩
  | 33 => ⟨S2x128, .f32⟩
  | 34 => ⟨S2x128, .i32⟩
  | 35 => ⟨S_, .i32⟩
  | 36 => ⟨S_, .i32⟩
  | 37 => ⟨S2x128, .i32⟩
  | 38 => ⟨S2x128, .i32⟩
  | 39 => ⟨S2x128x1, .f32⟩
  | 40 => ⟨S2x128, .f32⟩
  | 41 => ⟨S_, .f32⟩
  | 42 => ⟨S2x128, .f32⟩
  | 43 => ⟨S2x128, .f32⟩
  | 44 => ⟨S2x128, .f32⟩
  | 45 => ⟨S2x128, .i32⟩
  | 46 => ⟨S_, .i32⟩
  | 47 => ⟨S_, .i32⟩
  | 48 => ⟨S2x128, .i32⟩
  | 49 => ⟨S2x128, .i32⟩
  | 50 => ⟨S_, .i32⟩
  | 51 => ⟨S2x128, .i32⟩
  | 52 => ⟨S2x128, .i1⟩
  | 53 => ⟨S_, .i32⟩
  | 54 => ⟨S2x128, .i32⟩
  | 55 => ⟨S2x128, .i1⟩
  | 56 => ⟨S2x128, .i1⟩
  | 57 => ⟨S_, .i32⟩
  | 58 => ⟨S2x128, .i32⟩
  | 59 => ⟨S2x128, .i32⟩
  | 60 => ⟨S2x128, .i32⟩
  | 61 => ⟨S_, .i32⟩
  | 62 => ⟨S2x128, .i32⟩
  | 63 => ⟨S2x128, .i1⟩
  | 64 => ⟨S_, .i32⟩
  | 65 => ⟨S2x128, .i32⟩
  | 66 => ⟨S2x128, .i1⟩
  | 67 => ⟨S2x128, .i1⟩
  | 68 => ⟨S_, .i32⟩
  | 69 => ⟨S2x128, .i32⟩
  | 70 => ⟨S2x128, .i32⟩
  | 71 => ⟨S2x128, .i32⟩
  | 72 => ⟨S_, .i32⟩
  | 73 => ⟨S2x128, .i32⟩
  | 74 => ⟨S2x128, .i1⟩
  | 75 => ⟨S_, .i32⟩
  | 76 => ⟨S_, .i32⟩
  | 77 => ⟨S2x128, .i32⟩
  | 78 => ⟨S2x128, .i32⟩
  | 79 => ⟨S_, .i32⟩
  | 80 => ⟨S2x128, .i32⟩
  | 81 => ⟨S2x128, .i1⟩
  | 82 => ⟨S_, .i32⟩
  | 83 => ⟨S_, .i32⟩
  | 84 => ⟨S2x128, .i32⟩
  | 85 => ⟨S2x128, .i32⟩
  | 86 => ⟨S_, .i32⟩
  | 87 => ⟨S_, .i32⟩
  | 88 => ⟨S2x128, .i32⟩
  | 89 => ⟨S2x128, .i32⟩
  | 90 => ⟨S2x128, .i32⟩
  | 91 => ⟨S_, .i32⟩
  | 92 => ⟨S2x128, .i32⟩
  | 93 => ⟨S2x128, .i1⟩
  | 94 => ⟨S2x128, .i32⟩
  | 95 => ⟨S2x128, .i32⟩
  | 96 => ⟨S_, .i32⟩
  | 97 => ⟨S2x128, .i32⟩
  | 98 => ⟨S2x128, .i1⟩
  | 99 => ⟨S2x128, .i1⟩
  | 100 => ⟨S_, .i32⟩
  | 101 => ⟨S2x128, .i32⟩
  | 102 => ⟨S2x128, .i32⟩
  | 103 => ⟨S2x128, .i32⟩
  | 104 => ⟨S_, .i32⟩
  | 105 => ⟨S2x128, .i32⟩
  | 106 => ⟨S2x128, .i32⟩
  | 107 => ⟨S_, .i32⟩
  | 108 => ⟨S2x128, .i32⟩
  | 109 => ⟨S2x128, .i32⟩
  | 110 => ⟨S_, .i32⟩
  | 111 => ⟨S2x128, .i32⟩
  | 112 => ⟨S2x128, .i32⟩
  | 113 => ⟨S2x128, .i32⟩
  | 114 => ⟨S7, .i32⟩
  | 115 => ⟨S_, .i32⟩
  | 116 => ⟨S2x128, .i32⟩
  | 117 => ⟨S2x128, .i32⟩
  | 118 => ⟨S2x128, .i32⟩
  | 119 => ⟨S1x1x7, .i32⟩
  | 120 => ⟨S2x128x1, .i32⟩
  | 121 => ⟨S2x128x7, .i32⟩
  | 122 => ⟨S2x128x7, .i32⟩
  | 123 => ⟨S2x128x7, .i1⟩
  | 124 => ⟨S2x128x1, .i32⟩
  | 125 => ⟨S1x1x7, .i32⟩
  | 126 => ⟨S_, .i32⟩
  | 127 => ⟨S1x1x7, .i32⟩
  | _ => ⟨S2x512x50x64, .f32⟩

abbrev hbmTy0_1 (i : Nat) : BufTy := match i % 128 with
  | 0 => ⟨S1x1x7, .i32⟩
  | 1 => ⟨S2x128x7, .i32⟩
  | 2 => ⟨S2x128x7, .i32⟩
  | 3 => ⟨S2x128x7, .i32⟩
  | 4 => ⟨S2x128x1, .i32⟩
  | 5 => ⟨S2x128x7, .i32⟩
  | 6 => ⟨S2x128x7, .i32⟩
  | 7 => ⟨S_, .i32⟩
  | 8 => ⟨S2x128, .i32⟩
  | 9 => ⟨S2x128x1, .i32⟩
  | 10 => ⟨S2x128, .i32⟩
  | 11 => ⟨S2x128x1, .i32⟩
  | 12 => ⟨S2x128, .i32⟩
  | 13 => ⟨S2x128x1, .i32⟩
  | 14 => ⟨S2x128x1, .i32⟩
  | 15 => ⟨S2x512x3200, .f32⟩
  | 16 => ⟨S2x3200x512, .f32⟩
  | 17 => ⟨S2x128x512, .f32⟩
  | _ => ⟨S2x512x50x64, .f32⟩

abbrev hbmTy (i : Nat) : BufTy := match i / 128 with
  | 0 => hbmTy0_0 i
  | 1 => hbmTy0_1 i
  | _ => ⟨S2x512x50x64, .f32⟩

abbrev bufTy : (tb : Table) → Fin (tcTables nBuf tb) → BufTy
  | .hbm, ⟨i, _⟩ => hbmTy i
  | .local _ .vmem, ⟨0, _⟩ => ⟨S1x3200x512, .f32⟩
  | .local _ .vmem, ⟨1, _⟩ => ⟨S1x3200x512, .f32⟩
  | .local _ .vmem, ⟨2, _⟩ => ⟨S1x128x512, .f32⟩
  | .local _ .vmem, ⟨3, _⟩ => ⟨S1x128x512, .f32⟩
  | .local _ .smem, ⟨0, _⟩ => ⟨S2x128x16, .i32⟩
  | _, _ => ⟨S2x512x50x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_call2_v0 : Ref sig .tc := ⟨.hbm, 36, rfl⟩
abbrev main_call2_v1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_call3_v0 : Ref sig .tc := ⟨.hbm, 47, rfl⟩
abbrev main_call3_v1 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_c_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_13 : Ref sig .tc := ⟨.hbm, 72, rfl⟩
abbrev main_v47 : Ref sig .tc := ⟨.hbm, 73, rfl⟩
abbrev main_v48 : Ref sig .tc := ⟨.hbm, 74, rfl⟩
abbrev main_c_14 : Ref sig .tc := ⟨.hbm, 75, rfl⟩
abbrev main_call6_v0 : Ref sig .tc := ⟨.hbm, 76, rfl⟩
abbrev main_call6_v1 : Ref sig .tc := ⟨.hbm, 77, rfl⟩
abbrev main_v49 : Ref sig .tc := ⟨.hbm, 78, rfl⟩
abbrev main_c_15 : Ref sig .tc := ⟨.hbm, 79, rfl⟩
abbrev main_v50 : Ref sig .tc := ⟨.hbm, 80, rfl⟩
abbrev main_v51 : Ref sig .tc := ⟨.hbm, 81, rfl⟩
abbrev main_c_16 : Ref sig .tc := ⟨.hbm, 82, rfl⟩
abbrev main_call7_v0 : Ref sig .tc := ⟨.hbm, 83, rfl⟩
abbrev main_call7_v1 : Ref sig .tc := ⟨.hbm, 84, rfl⟩
abbrev main_v52 : Ref sig .tc := ⟨.hbm, 85, rfl⟩
abbrev main_c_17 : Ref sig .tc := ⟨.hbm, 86, rfl⟩
abbrev main_call8_v0 : Ref sig .tc := ⟨.hbm, 87, rfl⟩
abbrev main_call8_v1 : Ref sig .tc := ⟨.hbm, 88, rfl⟩
abbrev main_call8_v2 : Ref sig .tc := ⟨.hbm, 89, rfl⟩
abbrev main_call8_v3 : Ref sig .tc := ⟨.hbm, 90, rfl⟩
abbrev main_call8_v4 : Ref sig .tc := ⟨.hbm, 91, rfl⟩
abbrev main_call8_v5 : Ref sig .tc := ⟨.hbm, 92, rfl⟩
abbrev main_call8_v6 : Ref sig .tc := ⟨.hbm, 93, rfl⟩
abbrev main_call8_v7 : Ref sig .tc := ⟨.hbm, 94, rfl⟩
abbrev main_call8_v8 : Ref sig .tc := ⟨.hbm, 95, rfl⟩
abbrev main_call8_c : Ref sig .tc := ⟨.hbm, 96, rfl⟩
abbrev main_call8_v9 : Ref sig .tc := ⟨.hbm, 97, rfl⟩
abbrev main_call8_v10 : Ref sig .tc := ⟨.hbm, 98, rfl⟩
abbrev main_call8_v11 : Ref sig .tc := ⟨.hbm, 99, rfl⟩
abbrev main_call8_c_0 : Ref sig .tc := ⟨.hbm, 100, rfl⟩
abbrev main_call8_v12 : Ref sig .tc := ⟨.hbm, 101, rfl⟩
abbrev main_call8_v13 : Ref sig .tc := ⟨.hbm, 102, rfl⟩
abbrev main_v53 : Ref sig .tc := ⟨.hbm, 103, rfl⟩
abbrev main_c_18 : Ref sig .tc := ⟨.hbm, 104, rfl⟩
abbrev main_v54 : Ref sig .tc := ⟨.hbm, 105, rfl⟩
abbrev main_v55 : Ref sig .tc := ⟨.hbm, 106, rfl⟩
abbrev main_c_19 : Ref sig .tc := ⟨.hbm, 107, rfl⟩
abbrev main_v56 : Ref sig .tc := ⟨.hbm, 108, rfl⟩
abbrev main_v57 : Ref sig .tc := ⟨.hbm, 109, rfl⟩
abbrev main_c_20 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_c_21 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_c_22 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_call9_v0 : Ref sig .tc := ⟨.hbm, 133, rfl⟩
abbrev main_v78 : Ref sig .tc := ⟨.hbm, 134, rfl⟩
abbrev main_c_23 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v86 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v86.idx], fun | 0 => main_v86.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  v2
def k0_off1 (i : grid0.Coords) (k0_t1 : Fin k0_t1_loop.trips) : Fin 3 → Nat :=
  let arg0 : BitVec 32 := BitVec.ofNat 32 (i 0).val
  let v5 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c0_i32_1 : BitVec 32 := 0#32
  let v4 : BitVec 32 := Scalar.addi v3 c0_i32_1
  let v6 : Index := Scalar.indexCast v4
  let c0 : Index := 0#32
  ![v5.toNat, v6.toNat, 0]
def k0_mult2 (v7 : BitVec 32) : BitVec 32 :=
  v7

def k0_off2 (v7 : BitVec 32) : Fin 3 → Nat :=
  let c0_2 : Index := 0#32
  let v8 : BitVec 32 := v7
  let v9 : Index := Scalar.indexCast v8
  let c0_3 : Index := 0#32
  ![0, v9.toNat, 0]

def k0_chk1 (v7 : BitVec 32) : Prop :=
  (8 ∣ (k0_mult2 v7).toNat) ∧
  (∀ a, (k0_off2 v7) a + S1x16x512.size a ≤ S1x3200x512.size a)
theorem k0_mult2_dvd : ∀ (v7 : BitVec 32) (k0_hw1 : k0_chk1 v7), 8 ∣ (k0_mult2 v7).toNat := fun v7 k0_hw1 => k0_hw1.1
theorem k0_off2_inb : ∀ (v7 : BitVec 32) (k0_hw1 : k0_chk1 v7), ∀ a, (k0_off2 v7) a + S1x16x512.size a ≤ S1x3200x512.size a := fun v7 k0_hw1 => k0_hw1.2

def k0_off3 (i : grid0.Coords) (k0_t1 : Fin k0_t1_loop.trips) : Fin 3 → Nat :=
  let arg0 : BitVec 32 := BitVec.ofNat 32 (i 0).val
  let v12 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c0_i32_1 : BitVec 32 := 0#32
  let v4 : BitVec 32 := Scalar.addi v3 c0_i32_1
  let v13 : Index := Scalar.indexCast v4
  let c1 : Index := 1#32
  ![v12.toNat, v13.toNat, 1]
def k0_mult3 (v14 : BitVec 32) : BitVec 32 :=
  v14

def k0_off4 (v14 : BitVec 32) : Fin 3 → Nat :=
  let c0_4 : Index := 0#32
  let v15 : BitVec 32 := v14
  let v16 : Index := Scalar.indexCast v15
  let c0_5 : Index := 0#32
  ![0, v16.toNat, 0]

def k0_chk2 (v14 : BitVec 32) : Prop :=
  (8 ∣ (k0_mult3 v14).toNat) ∧
  (∀ a, (k0_off4 v14) a + S1x16x512.size a ≤ S1x3200x512.size a)
theorem k0_mult3_dvd : ∀ (v14 : BitVec 32) (k0_hw2 : k0_chk2 v14), 8 ∣ (k0_mult3 v14).toNat := fun v14 k0_hw2 => k0_hw2.1
theorem k0_off4_inb : ∀ (v14 : BitVec 32) (k0_hw2 : k0_chk2 v14), ∀ a, (k0_off4 v14) a + S1x16x512.size a ≤ S1x3200x512.size a := fun v14 k0_hw2 => k0_hw2.2

def k0_off5 (i : grid0.Coords) (k0_t1 : Fin k0_t1_loop.trips) : Fin 3 → Nat :=
  let arg0 : BitVec 32 := BitVec.ofNat 32 (i 0).val
  let v20 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c0_i32_1 : BitVec 32 := 0#32
  let v4 : BitVec 32 := Scalar.addi v3 c0_i32_1
  let v21 : Index := Scalar.indexCast v4
  let c2 : Index := 2#32
  ![v20.toNat, v21.toNat, 2]
def k0_mult4 (v22 : BitVec 32) : BitVec 32 :=
  v22

def k0_off6 (v22 : BitVec 32) : Fin 3 → Nat :=
  let c0_6 : Index := 0#32
  let v23 : BitVec 32 := v22
  let v24 : Index := Scalar.indexCast v23
  let c0_7 : Index := 0#32
  ![0, v24.toNat, 0]

def k0_chk3 (v22 : BitVec 32) : Prop :=
  (8 ∣ (k0_mult4 v22).toNat) ∧
  (∀ a, (k0_off6 v22) a + S1x16x512.size a ≤ S1x3200x512.size a)
theorem k0_mult4_dvd : ∀ (v22 : BitVec 32) (k0_hw3 : k0_chk3 v22), 8 ∣ (k0_mult4 v22).toNat := fun v22 k0_hw3 => k0_hw3.1
theorem k0_off6_inb : ∀ (v22 : BitVec 32) (k0_hw3 : k0_chk3 v22), ∀ a, (k0_off6 v22) a + S1x16x512.size a ≤ S1x3200x512.size a := fun v22 k0_hw3 => k0_hw3.2

def k0_off7 (i : grid0.Coords) (k0_t1 : Fin k0_t1_loop.trips) : Fin 3 → Nat :=
  let arg0 : BitVec 32 := BitVec.ofNat 32 (i 0).val
  let v28 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c0_i32_1 : BitVec 32 := 0#32
  let v4 : BitVec 32 := Scalar.addi v3 c0_i32_1
  let v29 : Index := Scalar.indexCast v4
  let c3 : Index := 3#32
  ![v28.toNat, v29.toNat, 3]
def k0_mult5 (v30 : BitVec 32) : BitVec 32 :=
  v30

def k0_off8 (v30 : BitVec 32) : Fin 3 → Nat :=
  let c0_8 : Index := 0#32
  let v31 : BitVec 32 := v30
  let v32 : Index := Scalar.indexCast v31
  let c0_9 : Index := 0#32
  ![0, v32.toNat, 0]

def k0_chk4 (v30 : BitVec 32) : Prop :=
  (8 ∣ (k0_mult5 v30).toNat) ∧
  (∀ a, (k0_off8 v30) a + S1x16x512.size a ≤ S1x3200x512.size a)
theorem k0_mult5_dvd : ∀ (v30 : BitVec 32) (k0_hw4 : k0_chk4 v30), 8 ∣ (k0_mult5 v30).toNat := fun v30 k0_hw4 => k0_hw4.1
theorem k0_off8_inb : ∀ (v30 : BitVec 32) (k0_hw4 : k0_chk4 v30), ∀ a, (k0_off8 v30) a + S1x16x512.size a ≤ S1x3200x512.size a := fun v30 k0_hw4 => k0_hw4.2

def k0_off9 (i : grid0.Coords) (k0_t1 : Fin k0_t1_loop.trips) : Fin 3 → Nat :=
  let arg0 : BitVec 32 := BitVec.ofNat 32 (i 0).val
  let v36 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c0_i32_1 : BitVec 32 := 0#32
  let v4 : BitVec 32 := Scalar.addi v3 c0_i32_1
  let v37 : Index := Scalar.indexCast v4
  let c4 : Index := 4#32
  ![v36.toNat, v37.toNat, 4]
def k0_mult6 (v38 : BitVec 32) : BitVec 32 :=
  v38

def k0_off10 (v38 : BitVec 32) : Fin 3 → Nat :=
  let c0_10 : Index := 0#32
  let v39 : BitVec 32 := v38
  let v40 : Index := Scalar.indexCast v39
  let c0_11 : Index := 0#32
  ![0, v40.toNat, 0]

def k0_chk5 (v38 : BitVec 32) : Prop :=
  (8 ∣ (k0_mult6 v38).toNat) ∧
  (∀ a, (k0_off10 v38) a + S1x16x512.size a ≤ S1x3200x512.size a)
theorem k0_mult6_dvd : ∀ (v38 : BitVec 32) (k0_hw5 : k0_chk5 v38), 8 ∣ (k0_mult6 v38).toNat := fun v38 k0_hw5 => k0_hw5.1
theorem k0_off10_inb : ∀ (v38 : BitVec 32) (k0_hw5 : k0_chk5 v38), ∀ a, (k0_off10 v38) a + S1x16x512.size a ≤ S1x3200x512.size a := fun v38 k0_hw5 => k0_hw5.2

def k0_off11 (i : grid0.Coords) (k0_t1 : Fin k0_t1_loop.trips) : Fin 3 → Nat :=
  let arg0 : BitVec 32 := BitVec.ofNat 32 (i 0).val
  let v44 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c0_i32_1 : BitVec 32 := 0#32
  let v4 : BitVec 32 := Scalar.addi v3 c0_i32_1
  let v45 : Index := Scalar.indexCast v4
  let c5 : Index := 5#32
  ![v44.toNat, v45.toNat, 5]
def k0_mult7 (v46 : BitVec 32) : BitVec 32 :=
  v46

def k0_off12 (v46 : BitVec 32) : Fin 3 → Nat :=
  let c0_12 : Index := 0#32
  let v47 : BitVec 32 := v46
  let v48 : Index := Scalar.indexCast v47
  let c0_13 : Index := 0#32
  ![0, v48.toNat, 0]

def k0_chk6 (v46 : BitVec 32) : Prop :=
  (8 ∣ (k0_mult7 v46).toNat) ∧
  (∀ a, (k0_off12 v46) a + S1x16x512.size a ≤ S1x3200x512.size a)
theorem k0_mult7_dvd : ∀ (v46 : BitVec 32) (k0_hw6 : k0_chk6 v46), 8 ∣ (k0_mult7 v46).toNat := fun v46 k0_hw6 => k0_hw6.1
theorem k0_off12_inb : ∀ (v46 : BitVec 32) (k0_hw6 : k0_chk6 v46), ∀ a, (k0_off12 v46) a + S1x16x512.size a ≤ S1x3200x512.size a := fun v46 k0_hw6 => k0_hw6.2

def k0_off13 (i : grid0.Coords) (k0_t1 : Fin k0_t1_loop.trips) : Fin 3 → Nat :=
  let arg0 : BitVec 32 := BitVec.ofNat 32 (i 0).val
  let v52 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c0_i32_1 : BitVec 32 := 0#32
  let v4 : BitVec 32 := Scalar.addi v3 c0_i32_1
  let v53 : Index := Scalar.indexCast v4
  let c6 : Index := 6#32
  ![v52.toNat, v53.toNat, 6]
def k0_mult8 (v54 : BitVec 32) : BitVec 32 :=
  v54

def k0_off14 (v54 : BitVec 32) : Fin 3 → Nat :=
  let c0_14 : Index := 0#32
  let v55 : BitVec 32 := v54
  let v56 : Index := Scalar.indexCast v55
  let c0_15 : Index := 0#32
  ![0, v56.toNat, 0]

def k0_chk7 (v54 : BitVec 32) : Prop :=
  (8 ∣ (k0_mult8 v54).toNat) ∧
  (∀ a, (k0_off14 v54) a + S1x16x512.size a ≤ S1x3200x512.size a)
theorem k0_mult8_dvd : ∀ (v54 : BitVec 32) (k0_hw7 : k0_chk7 v54), 8 ∣ (k0_mult8 v54).toNat := fun v54 k0_hw7 => k0_hw7.1
theorem k0_off14_inb : ∀ (v54 : BitVec 32) (k0_hw7 : k0_chk7 v54), ∀ a, (k0_off14 v54) a + S1x16x512.size a ≤ S1x3200x512.size a := fun v54 k0_hw7 => k0_hw7.2

def k0_off15 (i : grid0.Coords) (k0_t1 : Fin k0_t1_loop.trips) : Fin 3 → Nat :=
  let arg0 : BitVec 32 := BitVec.ofNat 32 (i 0).val
  let v60 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c0_i32_1 : BitVec 32 := 0#32
  let v4 : BitVec 32 := Scalar.addi v3 c0_i32_1
  let v61 : Index := Scalar.indexCast v4
  let c8 : Index := 8#32
  ![v60.toNat, v61.toNat, 8]
def k0_off16 (i : grid0.Coords) (k0_t1 : Fin k0_t1_loop.trips) : Fin 3 → Nat :=
  let arg0 : BitVec 32 := BitVec.ofNat 32 (i 0).val
  let v65 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c0_i32_1 : BitVec 32 := 0#32
  let v4 : BitVec 32 := Scalar.addi v3 c0_i32_1
  let v66 : Index := Scalar.indexCast v4
  let c9 : Index := 9#32
  ![v65.toNat, v66.toNat, 9]
def k0_off17 (k0_t1 : Fin k0_t1_loop.trips) : Fin 3 → Nat :=
  let c0_17 : Index := 0#32
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c0_i32_1 : BitVec 32 := 0#32
  let v4 : BitVec 32 := Scalar.addi v3 c0_i32_1
  let v77 : Index := Scalar.indexCast v4
  let c0_18 : Index := 0#32
  ![0, v77.toNat, 0]
def k0_off18 (i : grid0.Coords) (k0_t1 : Fin k0_t1_loop.trips) : Fin 3 → Nat :=
  let arg0 : BitVec 32 := BitVec.ofNat 32 (i 0).val
  let v82 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c1_i32_19 : BitVec 32 := 1#32
  let v81 : BitVec 32 := Scalar.addi v3 c1_i32_19
  let v83 : Index := Scalar.indexCast v81
  let c0_20 : Index := 0#32
  ![v82.toNat, v83.toNat, 0]
def k0_mult9 (v84 : BitVec 32) : BitVec 32 :=
  v84

def k0_off19 (v84 : BitVec 32) : Fin 3 → Nat :=
  let c0_21 : Index := 0#32
  let v85 : BitVec 32 := v84
  let v86 : Index := Scalar.indexCast v85
  let c0_22 : Index := 0#32
  ![0, v86.toNat, 0]

def k0_chk8 (v84 : BitVec 32) : Prop :=
  (8 ∣ (k0_mult9 v84).toNat) ∧
  (∀ a, (k0_off19 v84) a + S1x16x512.size a ≤ S1x3200x512.size a)
theorem k0_mult9_dvd : ∀ (v84 : BitVec 32) (k0_hw8 : k0_chk8 v84), 8 ∣ (k0_mult9 v84).toNat := fun v84 k0_hw8 => k0_hw8.1
theorem k0_off19_inb : ∀ (v84 : BitVec 32) (k0_hw8 : k0_chk8 v84), ∀ a, (k0_off19 v84) a + S1x16x512.size a ≤ S1x3200x512.size a := fun v84 k0_hw8 => k0_hw8.2

def k0_off20 (i : grid0.Coords) (k0_t1 : Fin k0_t1_loop.trips) : Fin 3 → Nat :=
  let arg0 : BitVec 32 := BitVec.ofNat 32 (i 0).val
  let v89 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c1_i32_19 : BitVec 32 := 1#32
  let v81 : BitVec 32 := Scalar.addi v3 c1_i32_19
  let v90 : Index := Scalar.indexCast v81
  let c1_23 : Index := 1#32
  ![v89.toNat, v90.toNat, 1]
def k0_mult10 (v91 : BitVec 32) : BitVec 32 :=
  v91

def k0_off21 (v91 : BitVec 32) : Fin 3 → Nat :=
  let c0_24 : Index := 0#32
  let v92 : BitVec 32 := v91
  let v93 : Index := Scalar.indexCast v92
  let c0_25 : Index := 0#32
  ![0, v93.toNat, 0]

def k0_chk9 (v91 : BitVec 32) : Prop :=
  (8 ∣ (k0_mult10 v91).toNat) ∧
  (∀ a, (k0_off21 v91) a + S1x16x512.size a ≤ S1x3200x512.size a)
theorem k0_mult10_dvd : ∀ (v91 : BitVec 32) (k0_hw9 : k0_chk9 v91), 8 ∣ (k0_mult10 v91).toNat := fun v91 k0_hw9 => k0_hw9.1
theorem k0_off21_inb : ∀ (v91 : BitVec 32) (k0_hw9 : k0_chk9 v91), ∀ a, (k0_off21 v91) a + S1x16x512.size a ≤ S1x3200x512.size a := fun v91 k0_hw9 => k0_hw9.2

def k0_off22 (i : grid0.Coords) (k0_t1 : Fin k0_t1_loop.trips) : Fin 3 → Nat :=
  let arg0 : BitVec 32 := BitVec.ofNat 32 (i 0).val
  let v97 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c1_i32_19 : BitVec 32 := 1#32
  let v81 : BitVec 32 := Scalar.addi v3 c1_i32_19
  let v98 : Index := Scalar.indexCast v81
  let c2_26 : Index := 2#32
  ![v97.toNat, v98.toNat, 2]
def k0_mult11 (v99 : BitVec 32) : BitVec 32 :=
  v99

def k0_off23 (v99 : BitVec 32) : Fin 3 → Nat :=
  let c0_27 : Index := 0#32
  let v100 : BitVec 32 := v99
  let v101 : Index := Scalar.indexCast v100
  let c0_28 : Index := 0#32
  ![0, v101.toNat, 0]

def k0_chk10 (v99 : BitVec 32) : Prop :=
  (8 ∣ (k0_mult11 v99).toNat) ∧
  (∀ a, (k0_off23 v99) a + S1x16x512.size a ≤ S1x3200x512.size a)
theorem k0_mult11_dvd : ∀ (v99 : BitVec 32) (k0_hw10 : k0_chk10 v99), 8 ∣ (k0_mult11 v99).toNat := fun v99 k0_hw10 => k0_hw10.1
theorem k0_off23_inb : ∀ (v99 : BitVec 32) (k0_hw10 : k0_chk10 v99), ∀ a, (k0_off23 v99) a + S1x16x512.size a ≤ S1x3200x512.size a := fun v99 k0_hw10 => k0_hw10.2

def k0_off24 (i : grid0.Coords) (k0_t1 : Fin k0_t1_loop.trips) : Fin 3 → Nat :=
  let arg0 : BitVec 32 := BitVec.ofNat 32 (i 0).val
  let v105 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c1_i32_19 : BitVec 32 := 1#32
  let v81 : BitVec 32 := Scalar.addi v3 c1_i32_19
  let v106 : Index := Scalar.indexCast v81
  let c3_29 : Index := 3#32
  ![v105.toNat, v106.toNat, 3]
def k0_mult12 (v107 : BitVec 32) : BitVec 32 :=
  v107

def k0_off25 (v107 : BitVec 32) : Fin 3 → Nat :=
  let c0_30 : Index := 0#32
  let v108 : BitVec 32 := v107
  let v109 : Index := Scalar.indexCast v108
  let c0_31 : Index := 0#32
  ![0, v109.toNat, 0]

def k0_chk11 (v107 : BitVec 32) : Prop :=
  (8 ∣ (k0_mult12 v107).toNat) ∧
  (∀ a, (k0_off25 v107) a + S1x16x512.size a ≤ S1x3200x512.size a)
theorem k0_mult12_dvd : ∀ (v107 : BitVec 32) (k0_hw11 : k0_chk11 v107), 8 ∣ (k0_mult12 v107).toNat := fun v107 k0_hw11 => k0_hw11.1
theorem k0_off25_inb : ∀ (v107 : BitVec 32) (k0_hw11 : k0_chk11 v107), ∀ a, (k0_off25 v107) a + S1x16x512.size a ≤ S1x3200x512.size a := fun v107 k0_hw11 => k0_hw11.2

def k0_off26 (i : grid0.Coords) (k0_t1 : Fin k0_t1_loop.trips) : Fin 3 → Nat :=
  let arg0 : BitVec 32 := BitVec.ofNat 32 (i 0).val
  let v113 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c1_i32_19 : BitVec 32 := 1#32
  let v81 : BitVec 32 := Scalar.addi v3 c1_i32_19
  let v114 : Index := Scalar.indexCast v81
  let c4_32 : Index := 4#32
  ![v113.toNat, v114.toNat, 4]
def k0_mult13 (v115 : BitVec 32) : BitVec 32 :=
  v115

def k0_off27 (v115 : BitVec 32) : Fin 3 → Nat :=
  let c0_33 : Index := 0#32
  let v116 : BitVec 32 := v115
  let v117 : Index := Scalar.indexCast v116
  let c0_34 : Index := 0#32
  ![0, v117.toNat, 0]

def k0_chk12 (v115 : BitVec 32) : Prop :=
  (8 ∣ (k0_mult13 v115).toNat) ∧
  (∀ a, (k0_off27 v115) a + S1x16x512.size a ≤ S1x3200x512.size a)
theorem k0_mult13_dvd : ∀ (v115 : BitVec 32) (k0_hw12 : k0_chk12 v115), 8 ∣ (k0_mult13 v115).toNat := fun v115 k0_hw12 => k0_hw12.1
theorem k0_off27_inb : ∀ (v115 : BitVec 32) (k0_hw12 : k0_chk12 v115), ∀ a, (k0_off27 v115) a + S1x16x512.size a ≤ S1x3200x512.size a := fun v115 k0_hw12 => k0_hw12.2

def k0_off28 (i : grid0.Coords) (k0_t1 : Fin k0_t1_loop.trips) : Fin 3 → Nat :=
  let arg0 : BitVec 32 := BitVec.ofNat 32 (i 0).val
  let v121 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c1_i32_19 : BitVec 32 := 1#32
  let v81 : BitVec 32 := Scalar.addi v3 c1_i32_19
  let v122 : Index := Scalar.indexCast v81
  let c5_35 : Index := 5#32
  ![v121.toNat, v122.toNat, 5]
def k0_mult14 (v123 : BitVec 32) : BitVec 32 :=
  v123

def k0_off29 (v123 : BitVec 32) : Fin 3 → Nat :=
  let c0_36 : Index := 0#32
  let v124 : BitVec 32 := v123
  let v125 : Index := Scalar.indexCast v124
  let c0_37 : Index := 0#32
  ![0, v125.toNat, 0]

def k0_chk13 (v123 : BitVec 32) : Prop :=
  (8 ∣ (k0_mult14 v123).toNat) ∧
  (∀ a, (k0_off29 v123) a + S1x16x512.size a ≤ S1x3200x512.size a)
theorem k0_mult14_dvd : ∀ (v123 : BitVec 32) (k0_hw13 : k0_chk13 v123), 8 ∣ (k0_mult14 v123).toNat := fun v123 k0_hw13 => k0_hw13.1
theorem k0_off29_inb : ∀ (v123 : BitVec 32) (k0_hw13 : k0_chk13 v123), ∀ a, (k0_off29 v123) a + S1x16x512.size a ≤ S1x3200x512.size a := fun v123 k0_hw13 => k0_hw13.2

def k0_off30 (i : grid0.Coords) (k0_t1 : Fin k0_t1_loop.trips) : Fin 3 → Nat :=
  let arg0 : BitVec 32 := BitVec.ofNat 32 (i 0).val
  let v129 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c1_i32_19 : BitVec 32 := 1#32
  let v81 : BitVec 32 := Scalar.addi v3 c1_i32_19
  let v130 : Index := Scalar.indexCast v81
  let c6_38 : Index := 6#32
  ![v129.toNat, v130.toNat, 6]
def k0_mult15 (v131 : BitVec 32) : BitVec 32 :=
  v131

def k0_off31 (v131 : BitVec 32) : Fin 3 → Nat :=
  let c0_39 : Index := 0#32
  let v132 : BitVec 32 := v131
  let v133 : Index := Scalar.indexCast v132
  let c0_40 : Index := 0#32
  ![0, v133.toNat, 0]

def k0_chk14 (v131 : BitVec 32) : Prop :=
  (8 ∣ (k0_mult15 v131).toNat) ∧
  (∀ a, (k0_off31 v131) a + S1x16x512.size a ≤ S1x3200x512.size a)
theorem k0_mult15_dvd : ∀ (v131 : BitVec 32) (k0_hw14 : k0_chk14 v131), 8 ∣ (k0_mult15 v131).toNat := fun v131 k0_hw14 => k0_hw14.1
theorem k0_off31_inb : ∀ (v131 : BitVec 32) (k0_hw14 : k0_chk14 v131), ∀ a, (k0_off31 v131) a + S1x16x512.size a ≤ S1x3200x512.size a := fun v131 k0_hw14 => k0_hw14.2

def k0_off32 (i : grid0.Coords) (k0_t1 : Fin k0_t1_loop.trips) : Fin 3 → Nat :=
  let arg0 : BitVec 32 := BitVec.ofNat 32 (i 0).val
  let v137 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c1_i32_19 : BitVec 32 := 1#32
  let v81 : BitVec 32 := Scalar.addi v3 c1_i32_19
  let v138 : Index := Scalar.indexCast v81
  let c8_41 : Index := 8#32
  ![v137.toNat, v138.toNat, 8]
def k0_off33 (i : grid0.Coords) (k0_t1 : Fin k0_t1_loop.trips) : Fin 3 → Nat :=
  let arg0 : BitVec 32 := BitVec.ofNat 32 (i 0).val
  let v142 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c1_i32_19 : BitVec 32 := 1#32
  let v81 : BitVec 32 := Scalar.addi v3 c1_i32_19
  let v143 : Index := Scalar.indexCast v81
  let c9_42 : Index := 9#32
  ![v142.toNat, v143.toNat, 9]
def k0_off34 (k0_t1 : Fin k0_t1_loop.trips) : Fin 3 → Nat :=
  let c0_44 : Index := 0#32
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c1_i32_19 : BitVec 32 := 1#32
  let v81 : BitVec 32 := Scalar.addi v3 c1_i32_19
  let v154 : Index := Scalar.indexCast v81
  let c0_45 : Index := 0#32
  ![0, v154.toNat, 0]
def k0_off35 (i : grid0.Coords) (k0_t1 : Fin k0_t1_loop.trips) : Fin 3 → Nat :=
  let arg0 : BitVec 32 := BitVec.ofNat 32 (i 0).val
  let v159 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c2_i32 : BitVec 32 := 2#32
  let v158 : BitVec 32 := Scalar.addi v3 c2_i32
  let v160 : Index := Scalar.indexCast v158
  let c0_46 : Index := 0#32
  ![v159.toNat, v160.toNat, 0]
def k0_mult16 (v161 : BitVec 32) : BitVec 32 :=
  v161

def k0_off36 (v161 : BitVec 32) : Fin 3 → Nat :=
  let c0_47 : Index := 0#32
  let v162 : BitVec 32 := v161
  let v163 : Index := Scalar.indexCast v162
  let c0_48 : Index := 0#32
  ![0, v163.toNat, 0]

def k0_chk15 (v161 : BitVec 32) : Prop :=
  (8 ∣ (k0_mult16 v161).toNat) ∧
  (∀ a, (k0_off36 v161) a + S1x16x512.size a ≤ S1x3200x512.size a)
theorem k0_mult16_dvd : ∀ (v161 : BitVec 32) (k0_hw15 : k0_chk15 v161), 8 ∣ (k0_mult16 v161).toNat := fun v161 k0_hw15 => k0_hw15.1
theorem k0_off36_inb : ∀ (v161 : BitVec 32) (k0_hw15 : k0_chk15 v161), ∀ a, (k0_off36 v161) a + S1x16x512.size a ≤ S1x3200x512.size a := fun v161 k0_hw15 => k0_hw15.2

def k0_off37 (i : grid0.Coords) (k0_t1 : Fin k0_t1_loop.trips) : Fin 3 → Nat :=
  let arg0 : BitVec 32 := BitVec.ofNat 32 (i 0).val
  let v166 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c2_i32 : BitVec 32 := 2#32
  let v158 : BitVec 32 := Scalar.addi v3 c2_i32
  let v167 : Index := Scalar.indexCast v158
  let c1_49 : Index := 1#32
  ![v166.toNat, v167.toNat, 1]
def k0_mult17 (v168 : BitVec 32) : BitVec 32 :=
  v168

def k0_off38 (v168 : BitVec 32) : Fin 3 → Nat :=
  let c0_50 : Index := 0#32
  let v169 : BitVec 32 := v168
  let v170 : Index := Scalar.indexCast v169
  let c0_51 : Index := 0#32
  ![0, v170.toNat, 0]

def k0_chk16 (v168 : BitVec 32) : Prop :=
  (8 ∣ (k0_mult17 v168).toNat) ∧
  (∀ a, (k0_off38 v168) a + S1x16x512.size a ≤ S1x3200x512.size a)
theorem k0_mult17_dvd : ∀ (v168 : BitVec 32) (k0_hw16 : k0_chk16 v168), 8 ∣ (k0_mult17 v168).toNat := fun v168 k0_hw16 => k0_hw16.1
theorem k0_off38_inb : ∀ (v168 : BitVec 32) (k0_hw16 : k0_chk16 v168), ∀ a, (k0_off38 v168) a + S1x16x512.size a ≤ S1x3200x512.size a := fun v168 k0_hw16 => k0_hw16.2

def k0_off39 (i : grid0.Coords) (k0_t1 : Fin k0_t1_loop.trips) : Fin 3 → Nat :=
  let arg0 : BitVec 32 := BitVec.ofNat 32 (i 0).val
  let v174 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c2_i32 : BitVec 32 := 2#32
  let v158 : BitVec 32 := Scalar.addi v3 c2_i32
  let v175 : Index := Scalar.indexCast v158
  let c2_52 : Index := 2#32
  ![v174.toNat, v175.toNat, 2]
def k0_mult18 (v176 : BitVec 32) : BitVec 32 :=
  v176

def k0_off40 (v176 : BitVec 32) : Fin 3 → Nat :=
  let c0_53 : Index := 0#32
  let v177 : BitVec 32 := v176
  let v178 : Index := Scalar.indexCast v177
  let c0_54 : Index := 0#32
  ![0, v178.toNat, 0]

def k0_chk17 (v176 : BitVec 32) : Prop :=
  (8 ∣ (k0_mult18 v176).toNat) ∧
  (∀ a, (k0_off40 v176) a + S1x16x512.size a ≤ S1x3200x512.size a)
theorem k0_mult18_dvd : ∀ (v176 : BitVec 32) (k0_hw17 : k0_chk17 v176), 8 ∣ (k0_mult18 v176).toNat := fun v176 k0_hw17 => k0_hw17.1
theorem k0_off40_inb : ∀ (v176 : BitVec 32) (k0_hw17 : k0_chk17 v176), ∀ a, (k0_off40 v176) a + S1x16x512.size a ≤ S1x3200x512.size a := fun v176 k0_hw17 => k0_hw17.2

def k0_off41 (i : grid0.Coords) (k0_t1 : Fin k0_t1_loop.trips) : Fin 3 → Nat :=
  let arg0 : BitVec 32 := BitVec.ofNat 32 (i 0).val
  let v182 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c2_i32 : BitVec 32 := 2#32
  let v158 : BitVec 32 := Scalar.addi v3 c2_i32
  let v183 : Index := Scalar.indexCast v158
  let c3_55 : Index := 3#32
  ![v182.toNat, v183.toNat, 3]
def k0_mult19 (v184 : BitVec 32) : BitVec 32 :=
  v184

def k0_off42 (v184 : BitVec 32) : Fin 3 → Nat :=
  let c0_56 : Index := 0#32
  let v185 : BitVec 32 := v184
  let v186 : Index := Scalar.indexCast v185
  let c0_57 : Index := 0#32
  ![0, v186.toNat, 0]

def k0_chk18 (v184 : BitVec 32) : Prop :=
  (8 ∣ (k0_mult19 v184).toNat) ∧
  (∀ a, (k0_off42 v184) a + S1x16x512.size a ≤ S1x3200x512.size a)
theorem k0_mult19_dvd : ∀ (v184 : BitVec 32) (k0_hw18 : k0_chk18 v184), 8 ∣ (k0_mult19 v184).toNat := fun v184 k0_hw18 => k0_hw18.1
theorem k0_off42_inb : ∀ (v184 : BitVec 32) (k0_hw18 : k0_chk18 v184), ∀ a, (k0_off42 v184) a + S1x16x512.size a ≤ S1x3200x512.size a := fun v184 k0_hw18 => k0_hw18.2

def k0_off43 (i : grid0.Coords) (k0_t1 : Fin k0_t1_loop.trips) : Fin 3 → Nat :=
  let arg0 : BitVec 32 := BitVec.ofNat 32 (i 0).val
  let v190 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c2_i32 : BitVec 32 := 2#32
  let v158 : BitVec 32 := Scalar.addi v3 c2_i32
  let v191 : Index := Scalar.indexCast v158
  let c4_58 : Index := 4#32
  ![v190.toNat, v191.toNat, 4]
def k0_mult20 (v192 : BitVec 32) : BitVec 32 :=
  v192

def k0_off44 (v192 : BitVec 32) : Fin 3 → Nat :=
  let c0_59 : Index := 0#32
  let v193 : BitVec 32 := v192
  let v194 : Index := Scalar.indexCast v193
  let c0_60 : Index := 0#32
  ![0, v194.toNat, 0]

def k0_chk19 (v192 : BitVec 32) : Prop :=
  (8 ∣ (k0_mult20 v192).toNat) ∧
  (∀ a, (k0_off44 v192) a + S1x16x512.size a ≤ S1x3200x512.size a)
theorem k0_mult20_dvd : ∀ (v192 : BitVec 32) (k0_hw19 : k0_chk19 v192), 8 ∣ (k0_mult20 v192).toNat := fun v192 k0_hw19 => k0_hw19.1
theorem k0_off44_inb : ∀ (v192 : BitVec 32) (k0_hw19 : k0_chk19 v192), ∀ a, (k0_off44 v192) a + S1x16x512.size a ≤ S1x3200x512.size a := fun v192 k0_hw19 => k0_hw19.2

def k0_off45 (i : grid0.Coords) (k0_t1 : Fin k0_t1_loop.trips) : Fin 3 → Nat :=
  let arg0 : BitVec 32 := BitVec.ofNat 32 (i 0).val
  let v198 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c2_i32 : BitVec 32 := 2#32
  let v158 : BitVec 32 := Scalar.addi v3 c2_i32
  let v199 : Index := Scalar.indexCast v158
  let c5_61 : Index := 5#32
  ![v198.toNat, v199.toNat, 5]
def k0_mult21 (v200 : BitVec 32) : BitVec 32 :=
  v200

def k0_off46 (v200 : BitVec 32) : Fin 3 → Nat :=
  let c0_62 : Index := 0#32
  let v201 : BitVec 32 := v200
  let v202 : Index := Scalar.indexCast v201
  let c0_63 : Index := 0#32
  ![0, v202.toNat, 0]

def k0_chk20 (v200 : BitVec 32) : Prop :=
  (8 ∣ (k0_mult21 v200).toNat) ∧
  (∀ a, (k0_off46 v200) a + S1x16x512.size a ≤ S1x3200x512.size a)
theorem k0_mult21_dvd : ∀ (v200 : BitVec 32) (k0_hw20 : k0_chk20 v200), 8 ∣ (k0_mult21 v200).toNat := fun v200 k0_hw20 => k0_hw20.1
theorem k0_off46_inb : ∀ (v200 : BitVec 32) (k0_hw20 : k0_chk20 v200), ∀ a, (k0_off46 v200) a + S1x16x512.size a ≤ S1x3200x512.size a := fun v200 k0_hw20 => k0_hw20.2

def k0_off47 (i : grid0.Coords) (k0_t1 : Fin k0_t1_loop.trips) : Fin 3 → Nat :=
  let arg0 : BitVec 32 := BitVec.ofNat 32 (i 0).val
  let v206 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c2_i32 : BitVec 32 := 2#32
  let v158 : BitVec 32 := Scalar.addi v3 c2_i32
  let v207 : Index := Scalar.indexCast v158
  let c6_64 : Index := 6#32
  ![v206.toNat, v207.toNat, 6]
def k0_mult22 (v208 : BitVec 32) : BitVec 32 :=
  v208

def k0_off48 (v208 : BitVec 32) : Fin 3 → Nat :=
  let c0_65 : Index := 0#32
  let v209 : BitVec 32 := v208
  let v210 : Index := Scalar.indexCast v209
  let c0_66 : Index := 0#32
  ![0, v210.toNat, 0]

def k0_chk21 (v208 : BitVec 32) : Prop :=
  (8 ∣ (k0_mult22 v208).toNat) ∧
  (∀ a, (k0_off48 v208) a + S1x16x512.size a ≤ S1x3200x512.size a)
theorem k0_mult22_dvd : ∀ (v208 : BitVec 32) (k0_hw21 : k0_chk21 v208), 8 ∣ (k0_mult22 v208).toNat := fun v208 k0_hw21 => k0_hw21.1
theorem k0_off48_inb : ∀ (v208 : BitVec 32) (k0_hw21 : k0_chk21 v208), ∀ a, (k0_off48 v208) a + S1x16x512.size a ≤ S1x3200x512.size a := fun v208 k0_hw21 => k0_hw21.2

def k0_off49 (i : grid0.Coords) (k0_t1 : Fin k0_t1_loop.trips) : Fin 3 → Nat :=
  let arg0 : BitVec 32 := BitVec.ofNat 32 (i 0).val
  let v214 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c2_i32 : BitVec 32 := 2#32
  let v158 : BitVec 32 := Scalar.addi v3 c2_i32
  let v215 : Index := Scalar.indexCast v158
  let c8_67 : Index := 8#32
  ![v214.toNat, v215.toNat, 8]
def k0_off50 (i : grid0.Coords) (k0_t1 : Fin k0_t1_loop.trips) : Fin 3 → Nat :=
  let arg0 : BitVec 32 := BitVec.ofNat 32 (i 0).val
  let v219 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c2_i32 : BitVec 32 := 2#32
  let v158 : BitVec 32 := Scalar.addi v3 c2_i32
  let v220 : Index := Scalar.indexCast v158
  let c9_68 : Index := 9#32
  ![v219.toNat, v220.toNat, 9]
def k0_off51 (k0_t1 : Fin k0_t1_loop.trips) : Fin 3 → Nat :=
  let c0_70 : Index := 0#32
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c2_i32 : BitVec 32 := 2#32
  let v158 : BitVec 32 := Scalar.addi v3 c2_i32
  let v231 : Index := Scalar.indexCast v158
  let c0_71 : Index := 0#32
  ![0, v231.toNat, 0]
def k0_off52 (i : grid0.Coords) (k0_t1 : Fin k0_t1_loop.trips) : Fin 3 → Nat :=
  let arg0 : BitVec 32 := BitVec.ofNat 32 (i 0).val
  let v236 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c3_i32 : BitVec 32 := 3#32
  let v235 : BitVec 32 := Scalar.addi v3 c3_i32
  let v237 : Index := Scalar.indexCast v235
  let c0_72 : Index := 0#32
  ![v236.toNat, v237.toNat, 0]
def k0_mult23 (v238 : BitVec 32) : BitVec 32 :=
  v238

def k0_off53 (v238 : BitVec 32) : Fin 3 → Nat :=
  let c0_73 : Index := 0#32
  let v239 : BitVec 32 := v238
  let v240 : Index := Scalar.indexCast v239
  let c0_74 : Index := 0#32
  ![0, v240.toNat, 0]

def k0_chk22 (v238 : BitVec 32) : Prop :=
  (8 ∣ (k0_mult23 v238).toNat) ∧
  (∀ a, (k0_off53 v238) a + S1x16x512.size a ≤ S1x3200x512.size a)
theorem k0_mult23_dvd : ∀ (v238 : BitVec 32) (k0_hw22 : k0_chk22 v238), 8 ∣ (k0_mult23 v238).toNat := fun v238 k0_hw22 => k0_hw22.1
theorem k0_off53_inb : ∀ (v238 : BitVec 32) (k0_hw22 : k0_chk22 v238), ∀ a, (k0_off53 v238) a + S1x16x512.size a ≤ S1x3200x512.size a := fun v238 k0_hw22 => k0_hw22.2

def k0_off54 (i : grid0.Coords) (k0_t1 : Fin k0_t1_loop.trips) : Fin 3 → Nat :=
  let arg0 : BitVec 32 := BitVec.ofNat 32 (i 0).val
  let v243 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c3_i32 : BitVec 32 := 3#32
  let v235 : BitVec 32 := Scalar.addi v3 c3_i32
  let v244 : Index := Scalar.indexCast v235
  let c1_75 : Index := 1#32
  ![v243.toNat, v244.toNat, 1]
def k0_mult24 (v245 : BitVec 32) : BitVec 32 :=
  v245

def k0_off55 (v245 : BitVec 32) : Fin 3 → Nat :=
  let c0_76 : Index := 0#32
  let v246 : BitVec 32 := v245
  let v247 : Index := Scalar.indexCast v246
  let c0_77 : Index := 0#32
  ![0, v247.toNat, 0]

def k0_chk23 (v245 : BitVec 32) : Prop :=
  (8 ∣ (k0_mult24 v245).toNat) ∧
  (∀ a, (k0_off55 v245) a + S1x16x512.size a ≤ S1x3200x512.size a)
theorem k0_mult24_dvd : ∀ (v245 : BitVec 32) (k0_hw23 : k0_chk23 v245), 8 ∣ (k0_mult24 v245).toNat := fun v245 k0_hw23 => k0_hw23.1
theorem k0_off55_inb : ∀ (v245 : BitVec 32) (k0_hw23 : k0_chk23 v245), ∀ a, (k0_off55 v245) a + S1x16x512.size a ≤ S1x3200x512.size a := fun v245 k0_hw23 => k0_hw23.2

def k0_off56 (i : grid0.Coords) (k0_t1 : Fin k0_t1_loop.trips) : Fin 3 → Nat :=
  let arg0 : BitVec 32 := BitVec.ofNat 32 (i 0).val
  let v251 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c3_i32 : BitVec 32 := 3#32
  let v235 : BitVec 32 := Scalar.addi v3 c3_i32
  let v252 : Index := Scalar.indexCast v235
  let c2_78 : Index := 2#32
  ![v251.toNat, v252.toNat, 2]
def k0_mult25 (v253 : BitVec 32) : BitVec 32 :=
  v253

def k0_off57 (v253 : BitVec 32) : Fin 3 → Nat :=
  let c0_79 : Index := 0#32
  let v254 : BitVec 32 := v253
  let v255 : Index := Scalar.indexCast v254
  let c0_80 : Index := 0#32
  ![0, v255.toNat, 0]

def k0_chk24 (v253 : BitVec 32) : Prop :=
  (8 ∣ (k0_mult25 v253).toNat) ∧
  (∀ a, (k0_off57 v253) a + S1x16x512.size a ≤ S1x3200x512.size a)
theorem k0_mult25_dvd : ∀ (v253 : BitVec 32) (k0_hw24 : k0_chk24 v253), 8 ∣ (k0_mult25 v253).toNat := fun v253 k0_hw24 => k0_hw24.1
theorem k0_off57_inb : ∀ (v253 : BitVec 32) (k0_hw24 : k0_chk24 v253), ∀ a, (k0_off57 v253) a + S1x16x512.size a ≤ S1x3200x512.size a := fun v253 k0_hw24 => k0_hw24.2

def k0_off58 (i : grid0.Coords) (k0_t1 : Fin k0_t1_loop.trips) : Fin 3 → Nat :=
  let arg0 : BitVec 32 := BitVec.ofNat 32 (i 0).val
  let v259 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c3_i32 : BitVec 32 := 3#32
  let v235 : BitVec 32 := Scalar.addi v3 c3_i32
  let v260 : Index := Scalar.indexCast v235
  let c3_81 : Index := 3#32
  ![v259.toNat, v260.toNat, 3]
def k0_mult26 (v261 : BitVec 32) : BitVec 32 :=
  v261

def k0_off59 (v261 : BitVec 32) : Fin 3 → Nat :=
  let c0_82 : Index := 0#32
  let v262 : BitVec 32 := v261
  let v263 : Index := Scalar.indexCast v262
  let c0_83 : Index := 0#32
  ![0, v263.toNat, 0]

def k0_chk25 (v261 : BitVec 32) : Prop :=
  (8 ∣ (k0_mult26 v261).toNat) ∧
  (∀ a, (k0_off59 v261) a + S1x16x512.size a ≤ S1x3200x512.size a)
theorem k0_mult26_dvd : ∀ (v261 : BitVec 32) (k0_hw25 : k0_chk25 v261), 8 ∣ (k0_mult26 v261).toNat := fun v261 k0_hw25 => k0_hw25.1
theorem k0_off59_inb : ∀ (v261 : BitVec 32) (k0_hw25 : k0_chk25 v261), ∀ a, (k0_off59 v261) a + S1x16x512.size a ≤ S1x3200x512.size a := fun v261 k0_hw25 => k0_hw25.2

def k0_off60 (i : grid0.Coords) (k0_t1 : Fin k0_t1_loop.trips) : Fin 3 → Nat :=
  let arg0 : BitVec 32 := BitVec.ofNat 32 (i 0).val
  let v267 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c3_i32 : BitVec 32 := 3#32
  let v235 : BitVec 32 := Scalar.addi v3 c3_i32
  let v268 : Index := Scalar.indexCast v235
  let c4_84 : Index := 4#32
  ![v267.toNat, v268.toNat, 4]
def k0_mult27 (v269 : BitVec 32) : BitVec 32 :=
  v269

def k0_off61 (v269 : BitVec 32) : Fin 3 → Nat :=
  let c0_85 : Index := 0#32
  let v270 : BitVec 32 := v269
  let v271 : Index := Scalar.indexCast v270
  let c0_86 : Index := 0#32
  ![0, v271.toNat, 0]

def k0_chk26 (v269 : BitVec 32) : Prop :=
  (8 ∣ (k0_mult27 v269).toNat) ∧
  (∀ a, (k0_off61 v269) a + S1x16x512.size a ≤ S1x3200x512.size a)
theorem k0_mult27_dvd : ∀ (v269 : BitVec 32) (k0_hw26 : k0_chk26 v269), 8 ∣ (k0_mult27 v269).toNat := fun v269 k0_hw26 => k0_hw26.1
theorem k0_off61_inb : ∀ (v269 : BitVec 32) (k0_hw26 : k0_chk26 v269), ∀ a, (k0_off61 v269) a + S1x16x512.size a ≤ S1x3200x512.size a := fun v269 k0_hw26 => k0_hw26.2

def k0_off62 (i : grid0.Coords) (k0_t1 : Fin k0_t1_loop.trips) : Fin 3 → Nat :=
  let arg0 : BitVec 32 := BitVec.ofNat 32 (i 0).val
  let v275 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c3_i32 : BitVec 32 := 3#32
  let v235 : BitVec 32 := Scalar.addi v3 c3_i32
  let v276 : Index := Scalar.indexCast v235
  let c5_87 : Index := 5#32
  ![v275.toNat, v276.toNat, 5]
def k0_mult28 (v277 : BitVec 32) : BitVec 32 :=
  v277

def k0_off63 (v277 : BitVec 32) : Fin 3 → Nat :=
  let c0_88 : Index := 0#32
  let v278 : BitVec 32 := v277
  let v279 : Index := Scalar.indexCast v278
  let c0_89 : Index := 0#32
  ![0, v279.toNat, 0]

def k0_chk27 (v277 : BitVec 32) : Prop :=
  (8 ∣ (k0_mult28 v277).toNat) ∧
  (∀ a, (k0_off63 v277) a + S1x16x512.size a ≤ S1x3200x512.size a)
theorem k0_mult28_dvd : ∀ (v277 : BitVec 32) (k0_hw27 : k0_chk27 v277), 8 ∣ (k0_mult28 v277).toNat := fun v277 k0_hw27 => k0_hw27.1
theorem k0_off63_inb : ∀ (v277 : BitVec 32) (k0_hw27 : k0_chk27 v277), ∀ a, (k0_off63 v277) a + S1x16x512.size a ≤ S1x3200x512.size a := fun v277 k0_hw27 => k0_hw27.2

def k0_off64 (i : grid0.Coords) (k0_t1 : Fin k0_t1_loop.trips) : Fin 3 → Nat :=
  let arg0 : BitVec 32 := BitVec.ofNat 32 (i 0).val
  let v283 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c3_i32 : BitVec 32 := 3#32
  let v235 : BitVec 32 := Scalar.addi v3 c3_i32
  let v284 : Index := Scalar.indexCast v235
  let c6_90 : Index := 6#32
  ![v283.toNat, v284.toNat, 6]
def k0_mult29 (v285 : BitVec 32) : BitVec 32 :=
  v285

def k0_off65 (v285 : BitVec 32) : Fin 3 → Nat :=
  let c0_91 : Index := 0#32
  let v286 : BitVec 32 := v285
  let v287 : Index := Scalar.indexCast v286
  let c0_92 : Index := 0#32
  ![0, v287.toNat, 0]

def k0_chk28 (v285 : BitVec 32) : Prop :=
  (8 ∣ (k0_mult29 v285).toNat) ∧
  (∀ a, (k0_off65 v285) a + S1x16x512.size a ≤ S1x3200x512.size a)
theorem k0_mult29_dvd : ∀ (v285 : BitVec 32) (k0_hw28 : k0_chk28 v285), 8 ∣ (k0_mult29 v285).toNat := fun v285 k0_hw28 => k0_hw28.1
theorem k0_off65_inb : ∀ (v285 : BitVec 32) (k0_hw28 : k0_chk28 v285), ∀ a, (k0_off65 v285) a + S1x16x512.size a ≤ S1x3200x512.size a := fun v285 k0_hw28 => k0_hw28.2

def k0_off66 (i : grid0.Coords) (k0_t1 : Fin k0_t1_loop.trips) : Fin 3 → Nat :=
  let arg0 : BitVec 32 := BitVec.ofNat 32 (i 0).val
  let v291 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c3_i32 : BitVec 32 := 3#32
  let v235 : BitVec 32 := Scalar.addi v3 c3_i32
  let v292 : Index := Scalar.indexCast v235
  let c8_93 : Index := 8#32
  ![v291.toNat, v292.toNat, 8]
def k0_off67 (i : grid0.Coords) (k0_t1 : Fin k0_t1_loop.trips) : Fin 3 → Nat :=
  let arg0 : BitVec 32 := BitVec.ofNat 32 (i 0).val
  let v296 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c3_i32 : BitVec 32 := 3#32
  let v235 : BitVec 32 := Scalar.addi v3 c3_i32
  let v297 : Index := Scalar.indexCast v235
  let c9_94 : Index := 9#32
  ![v296.toNat, v297.toNat, 9]
def k0_off68 (k0_t1 : Fin k0_t1_loop.trips) : Fin 3 → Nat :=
  let c0_96 : Index := 0#32
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c3_i32 : BitVec 32 := 3#32
  let v235 : BitVec 32 := Scalar.addi v3 c3_i32
  let v308 : Index := Scalar.indexCast v235
  let c0_97 : Index := 0#32
  ![0, v308.toNat, 0]
def k0_off69 (i : grid0.Coords) (k0_t1 : Fin k0_t1_loop.trips) : Fin 3 → Nat :=
  let arg0 : BitVec 32 := BitVec.ofNat 32 (i 0).val
  let v313 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c4_i32 : BitVec 32 := 4#32
  let v312 : BitVec 32 := Scalar.addi v3 c4_i32
  let v314 : Index := Scalar.indexCast v312
  let c0_98 : Index := 0#32
  ![v313.toNat, v314.toNat, 0]
def k0_mult30 (v315 : BitVec 32) : BitVec 32 :=
  v315

def k0_off70 (v315 : BitVec 32) : Fin 3 → Nat :=
  let c0_99 : Index := 0#32
  let v316 : BitVec 32 := v315
  let v317 : Index := Scalar.indexCast v316
  let c0_100 : Index := 0#32
  ![0, v317.toNat, 0]

def k0_chk29 (v315 : BitVec 32) : Prop :=
  (8 ∣ (k0_mult30 v315).toNat) ∧
  (∀ a, (k0_off70 v315) a + S1x16x512.size a ≤ S1x3200x512.size a)
theorem k0_mult30_dvd : ∀ (v315 : BitVec 32) (k0_hw29 : k0_chk29 v315), 8 ∣ (k0_mult30 v315).toNat := fun v315 k0_hw29 => k0_hw29.1
theorem k0_off70_inb : ∀ (v315 : BitVec 32) (k0_hw29 : k0_chk29 v315), ∀ a, (k0_off70 v315) a + S1x16x512.size a ≤ S1x3200x512.size a := fun v315 k0_hw29 => k0_hw29.2

def k0_off71 (i : grid0.Coords) (k0_t1 : Fin k0_t1_loop.trips) : Fin 3 → Nat :=
  let arg0 : BitVec 32 := BitVec.ofNat 32 (i 0).val
  let v320 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c4_i32 : BitVec 32 := 4#32
  let v312 : BitVec 32 := Scalar.addi v3 c4_i32
  let v321 : Index := Scalar.indexCast v312
  let c1_101 : Index := 1#32
  ![v320.toNat, v321.toNat, 1]
def k0_mult31 (v322 : BitVec 32) : BitVec 32 :=
  v322

def k0_off72 (v322 : BitVec 32) : Fin 3 → Nat :=
  let c0_102 : Index := 0#32
  let v323 : BitVec 32 := v322
  let v324 : Index := Scalar.indexCast v323
  let c0_103 : Index := 0#32
  ![0, v324.toNat, 0]

def k0_chk30 (v322 : BitVec 32) : Prop :=
  (8 ∣ (k0_mult31 v322).toNat) ∧
  (∀ a, (k0_off72 v322) a + S1x16x512.size a ≤ S1x3200x512.size a)
theorem k0_mult31_dvd : ∀ (v322 : BitVec 32) (k0_hw30 : k0_chk30 v322), 8 ∣ (k0_mult31 v322).toNat := fun v322 k0_hw30 => k0_hw30.1
theorem k0_off72_inb : ∀ (v322 : BitVec 32) (k0_hw30 : k0_chk30 v322), ∀ a, (k0_off72 v322) a + S1x16x512.size a ≤ S1x3200x512.size a := fun v322 k0_hw30 => k0_hw30.2

def k0_off73 (i : grid0.Coords) (k0_t1 : Fin k0_t1_loop.trips) : Fin 3 → Nat :=
  let arg0 : BitVec 32 := BitVec.ofNat 32 (i 0).val
  let v328 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c4_i32 : BitVec 32 := 4#32
  let v312 : BitVec 32 := Scalar.addi v3 c4_i32
  let v329 : Index := Scalar.indexCast v312
  let c2_104 : Index := 2#32
  ![v328.toNat, v329.toNat, 2]
def k0_mult32 (v330 : BitVec 32) : BitVec 32 :=
  v330

def k0_off74 (v330 : BitVec 32) : Fin 3 → Nat :=
  let c0_105 : Index := 0#32
  let v331 : BitVec 32 := v330
  let v332 : Index := Scalar.indexCast v331
  let c0_106 : Index := 0#32
  ![0, v332.toNat, 0]

def k0_chk31 (v330 : BitVec 32) : Prop :=
  (8 ∣ (k0_mult32 v330).toNat) ∧
  (∀ a, (k0_off74 v330) a + S1x16x512.size a ≤ S1x3200x512.size a)
theorem k0_mult32_dvd : ∀ (v330 : BitVec 32) (k0_hw31 : k0_chk31 v330), 8 ∣ (k0_mult32 v330).toNat := fun v330 k0_hw31 => k0_hw31.1
theorem k0_off74_inb : ∀ (v330 : BitVec 32) (k0_hw31 : k0_chk31 v330), ∀ a, (k0_off74 v330) a + S1x16x512.size a ≤ S1x3200x512.size a := fun v330 k0_hw31 => k0_hw31.2

def k0_off75 (i : grid0.Coords) (k0_t1 : Fin k0_t1_loop.trips) : Fin 3 → Nat :=
  let arg0 : BitVec 32 := BitVec.ofNat 32 (i 0).val
  let v336 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c4_i32 : BitVec 32 := 4#32
  let v312 : BitVec 32 := Scalar.addi v3 c4_i32
  let v337 : Index := Scalar.indexCast v312
  let c3_107 : Index := 3#32
  ![v336.toNat, v337.toNat, 3]
def k0_mult33 (v338 : BitVec 32) : BitVec 32 :=
  v338

def k0_off76 (v338 : BitVec 32) : Fin 3 → Nat :=
  let c0_108 : Index := 0#32
  let v339 : BitVec 32 := v338
  let v340 : Index := Scalar.indexCast v339
  let c0_109 : Index := 0#32
  ![0, v340.toNat, 0]

def k0_chk32 (v338 : BitVec 32) : Prop :=
  (8 ∣ (k0_mult33 v338).toNat) ∧
  (∀ a, (k0_off76 v338) a + S1x16x512.size a ≤ S1x3200x512.size a)
theorem k0_mult33_dvd : ∀ (v338 : BitVec 32) (k0_hw32 : k0_chk32 v338), 8 ∣ (k0_mult33 v338).toNat := fun v338 k0_hw32 => k0_hw32.1
theorem k0_off76_inb : ∀ (v338 : BitVec 32) (k0_hw32 : k0_chk32 v338), ∀ a, (k0_off76 v338) a + S1x16x512.size a ≤ S1x3200x512.size a := fun v338 k0_hw32 => k0_hw32.2

def k0_off77 (i : grid0.Coords) (k0_t1 : Fin k0_t1_loop.trips) : Fin 3 → Nat :=
  let arg0 : BitVec 32 := BitVec.ofNat 32 (i 0).val
  let v344 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c4_i32 : BitVec 32 := 4#32
  let v312 : BitVec 32 := Scalar.addi v3 c4_i32
  let v345 : Index := Scalar.indexCast v312
  let c4_110 : Index := 4#32
  ![v344.toNat, v345.toNat, 4]
def k0_mult34 (v346 : BitVec 32) : BitVec 32 :=
  v346

def k0_off78 (v346 : BitVec 32) : Fin 3 → Nat :=
  let c0_111 : Index := 0#32
  let v347 : BitVec 32 := v346
  let v348 : Index := Scalar.indexCast v347
  let c0_112 : Index := 0#32
  ![0, v348.toNat, 0]

def k0_chk33 (v346 : BitVec 32) : Prop :=
  (8 ∣ (k0_mult34 v346).toNat) ∧
  (∀ a, (k0_off78 v346) a + S1x16x512.size a ≤ S1x3200x512.size a)
theorem k0_mult34_dvd : ∀ (v346 : BitVec 32) (k0_hw33 : k0_chk33 v346), 8 ∣ (k0_mult34 v346).toNat := fun v346 k0_hw33 => k0_hw33.1
theorem k0_off78_inb : ∀ (v346 : BitVec 32) (k0_hw33 : k0_chk33 v346), ∀ a, (k0_off78 v346) a + S1x16x512.size a ≤ S1x3200x512.size a := fun v346 k0_hw33 => k0_hw33.2

def k0_off79 (i : grid0.Coords) (k0_t1 : Fin k0_t1_loop.trips) : Fin 3 → Nat :=
  let arg0 : BitVec 32 := BitVec.ofNat 32 (i 0).val
  let v352 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c4_i32 : BitVec 32 := 4#32
  let v312 : BitVec 32 := Scalar.addi v3 c4_i32
  let v353 : Index := Scalar.indexCast v312
  let c5_113 : Index := 5#32
  ![v352.toNat, v353.toNat, 5]
def k0_mult35 (v354 : BitVec 32) : BitVec 32 :=
  v354

def k0_off80 (v354 : BitVec 32) : Fin 3 → Nat :=
  let c0_114 : Index := 0#32
  let v355 : BitVec 32 := v354
  let v356 : Index := Scalar.indexCast v355
  let c0_115 : Index := 0#32
  ![0, v356.toNat, 0]

def k0_chk34 (v354 : BitVec 32) : Prop :=
  (8 ∣ (k0_mult35 v354).toNat) ∧
  (∀ a, (k0_off80 v354) a + S1x16x512.size a ≤ S1x3200x512.size a)
theorem k0_mult35_dvd : ∀ (v354 : BitVec 32) (k0_hw34 : k0_chk34 v354), 8 ∣ (k0_mult35 v354).toNat := fun v354 k0_hw34 => k0_hw34.1
theorem k0_off80_inb : ∀ (v354 : BitVec 32) (k0_hw34 : k0_chk34 v354), ∀ a, (k0_off80 v354) a + S1x16x512.size a ≤ S1x3200x512.size a := fun v354 k0_hw34 => k0_hw34.2

def k0_off81 (i : grid0.Coords) (k0_t1 : Fin k0_t1_loop.trips) : Fin 3 → Nat :=
  let arg0 : BitVec 32 := BitVec.ofNat 32 (i 0).val
  let v360 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c4_i32 : BitVec 32 := 4#32
  let v312 : BitVec 32 := Scalar.addi v3 c4_i32
  let v361 : Index := Scalar.indexCast v312
  let c6_116 : Index := 6#32
  ![v360.toNat, v361.toNat, 6]
def k0_mult36 (v362 : BitVec 32) : BitVec 32 :=
  v362

def k0_off82 (v362 : BitVec 32) : Fin 3 → Nat :=
  let c0_117 : Index := 0#32
  let v363 : BitVec 32 := v362
  let v364 : Index := Scalar.indexCast v363
  let c0_118 : Index := 0#32
  ![0, v364.toNat, 0]

def k0_chk35 (v362 : BitVec 32) : Prop :=
  (8 ∣ (k0_mult36 v362).toNat) ∧
  (∀ a, (k0_off82 v362) a + S1x16x512.size a ≤ S1x3200x512.size a)
theorem k0_mult36_dvd : ∀ (v362 : BitVec 32) (k0_hw35 : k0_chk35 v362), 8 ∣ (k0_mult36 v362).toNat := fun v362 k0_hw35 => k0_hw35.1
theorem k0_off82_inb : ∀ (v362 : BitVec 32) (k0_hw35 : k0_chk35 v362), ∀ a, (k0_off82 v362) a + S1x16x512.size a ≤ S1x3200x512.size a := fun v362 k0_hw35 => k0_hw35.2

def k0_off83 (i : grid0.Coords) (k0_t1 : Fin k0_t1_loop.trips) : Fin 3 → Nat :=
  let arg0 : BitVec 32 := BitVec.ofNat 32 (i 0).val
  let v368 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c4_i32 : BitVec 32 := 4#32
  let v312 : BitVec 32 := Scalar.addi v3 c4_i32
  let v369 : Index := Scalar.indexCast v312
  let c8_119 : Index := 8#32
  ![v368.toNat, v369.toNat, 8]
def k0_off84 (i : grid0.Coords) (k0_t1 : Fin k0_t1_loop.trips) : Fin 3 → Nat :=
  let arg0 : BitVec 32 := BitVec.ofNat 32 (i 0).val
  let v373 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c4_i32 : BitVec 32 := 4#32
  let v312 : BitVec 32 := Scalar.addi v3 c4_i32
  let v374 : Index := Scalar.indexCast v312
  let c9_120 : Index := 9#32
  ![v373.toNat, v374.toNat, 9]
def k0_off85 (k0_t1 : Fin k0_t1_loop.trips) : Fin 3 → Nat :=
  let c0_122 : Index := 0#32
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c4_i32 : BitVec 32 := 4#32
  let v312 : BitVec 32 := Scalar.addi v3 c4_i32
  let v385 : Index := Scalar.indexCast v312
  let c0_123 : Index := 0#32
  ![0, v385.toNat, 0]
def k0_off86 (i : grid0.Coords) (k0_t1 : Fin k0_t1_loop.trips) : Fin 3 → Nat :=
  let arg0 : BitVec 32 := BitVec.ofNat 32 (i 0).val
  let v390 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c5_i32 : BitVec 32 := 5#32
  let v389 : BitVec 32 := Scalar.addi v3 c5_i32
  let v391 : Index := Scalar.indexCast v389
  let c0_124 : Index := 0#32
  ![v390.toNat, v391.toNat, 0]
def k0_mult37 (v392 : BitVec 32) : BitVec 32 :=
  v392

def k0_off87 (v392 : BitVec 32) : Fin 3 → Nat :=
  let c0_125 : Index := 0#32
  let v393 : BitVec 32 := v392
  let v394 : Index := Scalar.indexCast v393
  let c0_126 : Index := 0#32
  ![0, v394.toNat, 0]

def k0_chk36 (v392 : BitVec 32) : Prop :=
  (8 ∣ (k0_mult37 v392).toNat) ∧
  (∀ a, (k0_off87 v392) a + S1x16x512.size a ≤ S1x3200x512.size a)
theorem k0_mult37_dvd : ∀ (v392 : BitVec 32) (k0_hw36 : k0_chk36 v392), 8 ∣ (k0_mult37 v392).toNat := fun v392 k0_hw36 => k0_hw36.1
theorem k0_off87_inb : ∀ (v392 : BitVec 32) (k0_hw36 : k0_chk36 v392), ∀ a, (k0_off87 v392) a + S1x16x512.size a ≤ S1x3200x512.size a := fun v392 k0_hw36 => k0_hw36.2

def k0_off88 (i : grid0.Coords) (k0_t1 : Fin k0_t1_loop.trips) : Fin 3 → Nat :=
  let arg0 : BitVec 32 := BitVec.ofNat 32 (i 0).val
  let v397 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c5_i32 : BitVec 32 := 5#32
  let v389 : BitVec 32 := Scalar.addi v3 c5_i32
  let v398 : Index := Scalar.indexCast v389
  let c1_127 : Index := 1#32
  ![v397.toNat, v398.toNat, 1]
def k0_mult38 (v399 : BitVec 32) : BitVec 32 :=
  v399

def k0_off89 (v399 : BitVec 32) : Fin 3 → Nat :=
  let c0_128 : Index := 0#32
  let v400 : BitVec 32 := v399
  let v401 : Index := Scalar.indexCast v400
  let c0_129 : Index := 0#32
  ![0, v401.toNat, 0]

def k0_chk37 (v399 : BitVec 32) : Prop :=
  (8 ∣ (k0_mult38 v399).toNat) ∧
  (∀ a, (k0_off89 v399) a + S1x16x512.size a ≤ S1x3200x512.size a)
theorem k0_mult38_dvd : ∀ (v399 : BitVec 32) (k0_hw37 : k0_chk37 v399), 8 ∣ (k0_mult38 v399).toNat := fun v399 k0_hw37 => k0_hw37.1
theorem k0_off89_inb : ∀ (v399 : BitVec 32) (k0_hw37 : k0_chk37 v399), ∀ a, (k0_off89 v399) a + S1x16x512.size a ≤ S1x3200x512.size a := fun v399 k0_hw37 => k0_hw37.2

def k0_off90 (i : grid0.Coords) (k0_t1 : Fin k0_t1_loop.trips) : Fin 3 → Nat :=
  let arg0 : BitVec 32 := BitVec.ofNat 32 (i 0).val
  let v405 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c5_i32 : BitVec 32 := 5#32
  let v389 : BitVec 32 := Scalar.addi v3 c5_i32
  let v406 : Index := Scalar.indexCast v389
  let c2_130 : Index := 2#32
  ![v405.toNat, v406.toNat, 2]
def k0_mult39 (v407 : BitVec 32) : BitVec 32 :=
  v407

def k0_off91 (v407 : BitVec 32) : Fin 3 → Nat :=
  let c0_131 : Index := 0#32
  let v408 : BitVec 32 := v407
  let v409 : Index := Scalar.indexCast v408
  let c0_132 : Index := 0#32
  ![0, v409.toNat, 0]

def k0_chk38 (v407 : BitVec 32) : Prop :=
  (8 ∣ (k0_mult39 v407).toNat) ∧
  (∀ a, (k0_off91 v407) a + S1x16x512.size a ≤ S1x3200x512.size a)
theorem k0_mult39_dvd : ∀ (v407 : BitVec 32) (k0_hw38 : k0_chk38 v407), 8 ∣ (k0_mult39 v407).toNat := fun v407 k0_hw38 => k0_hw38.1
theorem k0_off91_inb : ∀ (v407 : BitVec 32) (k0_hw38 : k0_chk38 v407), ∀ a, (k0_off91 v407) a + S1x16x512.size a ≤ S1x3200x512.size a := fun v407 k0_hw38 => k0_hw38.2

def k0_off92 (i : grid0.Coords) (k0_t1 : Fin k0_t1_loop.trips) : Fin 3 → Nat :=
  let arg0 : BitVec 32 := BitVec.ofNat 32 (i 0).val
  let v413 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c5_i32 : BitVec 32 := 5#32
  let v389 : BitVec 32 := Scalar.addi v3 c5_i32
  let v414 : Index := Scalar.indexCast v389
  let c3_133 : Index := 3#32
  ![v413.toNat, v414.toNat, 3]
def k0_mult40 (v415 : BitVec 32) : BitVec 32 :=
  v415

def k0_off93 (v415 : BitVec 32) : Fin 3 → Nat :=
  let c0_134 : Index := 0#32
  let v416 : BitVec 32 := v415
  let v417 : Index := Scalar.indexCast v416
  let c0_135 : Index := 0#32
  ![0, v417.toNat, 0]

def k0_chk39 (v415 : BitVec 32) : Prop :=
  (8 ∣ (k0_mult40 v415).toNat) ∧
  (∀ a, (k0_off93 v415) a + S1x16x512.size a ≤ S1x3200x512.size a)
theorem k0_mult40_dvd : ∀ (v415 : BitVec 32) (k0_hw39 : k0_chk39 v415), 8 ∣ (k0_mult40 v415).toNat := fun v415 k0_hw39 => k0_hw39.1
theorem k0_off93_inb : ∀ (v415 : BitVec 32) (k0_hw39 : k0_chk39 v415), ∀ a, (k0_off93 v415) a + S1x16x512.size a ≤ S1x3200x512.size a := fun v415 k0_hw39 => k0_hw39.2

def k0_off94 (i : grid0.Coords) (k0_t1 : Fin k0_t1_loop.trips) : Fin 3 → Nat :=
  let arg0 : BitVec 32 := BitVec.ofNat 32 (i 0).val
  let v421 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c5_i32 : BitVec 32 := 5#32
  let v389 : BitVec 32 := Scalar.addi v3 c5_i32
  let v422 : Index := Scalar.indexCast v389
  let c4_136 : Index := 4#32
  ![v421.toNat, v422.toNat, 4]
def k0_mult41 (v423 : BitVec 32) : BitVec 32 :=
  v423

def k0_off95 (v423 : BitVec 32) : Fin 3 → Nat :=
  let c0_137 : Index := 0#32
  let v424 : BitVec 32 := v423
  let v425 : Index := Scalar.indexCast v424
  let c0_138 : Index := 0#32
  ![0, v425.toNat, 0]

def k0_chk40 (v423 : BitVec 32) : Prop :=
  (8 ∣ (k0_mult41 v423).toNat) ∧
  (∀ a, (k0_off95 v423) a + S1x16x512.size a ≤ S1x3200x512.size a)
theorem k0_mult41_dvd : ∀ (v423 : BitVec 32) (k0_hw40 : k0_chk40 v423), 8 ∣ (k0_mult41 v423).toNat := fun v423 k0_hw40 => k0_hw40.1
theorem k0_off95_inb : ∀ (v423 : BitVec 32) (k0_hw40 : k0_chk40 v423), ∀ a, (k0_off95 v423) a + S1x16x512.size a ≤ S1x3200x512.size a := fun v423 k0_hw40 => k0_hw40.2

def k0_off96 (i : grid0.Coords) (k0_t1 : Fin k0_t1_loop.trips) : Fin 3 → Nat :=
  let arg0 : BitVec 32 := BitVec.ofNat 32 (i 0).val
  let v429 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c5_i32 : BitVec 32 := 5#32
  let v389 : BitVec 32 := Scalar.addi v3 c5_i32
  let v430 : Index := Scalar.indexCast v389
  let c5_139 : Index := 5#32
  ![v429.toNat, v430.toNat, 5]
def k0_mult42 (v431 : BitVec 32) : BitVec 32 :=
  v431

def k0_off97 (v431 : BitVec 32) : Fin 3 → Nat :=
  let c0_140 : Index := 0#32
  let v432 : BitVec 32 := v431
  let v433 : Index := Scalar.indexCast v432
  let c0_141 : Index := 0#32
  ![0, v433.toNat, 0]

def k0_chk41 (v431 : BitVec 32) : Prop :=
  (8 ∣ (k0_mult42 v431).toNat) ∧
  (∀ a, (k0_off97 v431) a + S1x16x512.size a ≤ S1x3200x512.size a)
theorem k0_mult42_dvd : ∀ (v431 : BitVec 32) (k0_hw41 : k0_chk41 v431), 8 ∣ (k0_mult42 v431).toNat := fun v431 k0_hw41 => k0_hw41.1
theorem k0_off97_inb : ∀ (v431 : BitVec 32) (k0_hw41 : k0_chk41 v431), ∀ a, (k0_off97 v431) a + S1x16x512.size a ≤ S1x3200x512.size a := fun v431 k0_hw41 => k0_hw41.2

def k0_off98 (i : grid0.Coords) (k0_t1 : Fin k0_t1_loop.trips) : Fin 3 → Nat :=
  let arg0 : BitVec 32 := BitVec.ofNat 32 (i 0).val
  let v437 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c5_i32 : BitVec 32 := 5#32
  let v389 : BitVec 32 := Scalar.addi v3 c5_i32
  let v438 : Index := Scalar.indexCast v389
  let c6_142 : Index := 6#32
  ![v437.toNat, v438.toNat, 6]
def k0_mult43 (v439 : BitVec 32) : BitVec 32 :=
  v439

def k0_off99 (v439 : BitVec 32) : Fin 3 → Nat :=
  let c0_143 : Index := 0#32
  let v440 : BitVec 32 := v439
  let v441 : Index := Scalar.indexCast v440
  let c0_144 : Index := 0#32
  ![0, v441.toNat, 0]

def k0_chk42 (v439 : BitVec 32) : Prop :=
  (8 ∣ (k0_mult43 v439).toNat) ∧
  (∀ a, (k0_off99 v439) a + S1x16x512.size a ≤ S1x3200x512.size a)
theorem k0_mult43_dvd : ∀ (v439 : BitVec 32) (k0_hw42 : k0_chk42 v439), 8 ∣ (k0_mult43 v439).toNat := fun v439 k0_hw42 => k0_hw42.1
theorem k0_off99_inb : ∀ (v439 : BitVec 32) (k0_hw42 : k0_chk42 v439), ∀ a, (k0_off99 v439) a + S1x16x512.size a ≤ S1x3200x512.size a := fun v439 k0_hw42 => k0_hw42.2

def k0_off100 (i : grid0.Coords) (k0_t1 : Fin k0_t1_loop.trips) : Fin 3 → Nat :=
  let arg0 : BitVec 32 := BitVec.ofNat 32 (i 0).val
  let v445 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c5_i32 : BitVec 32 := 5#32
  let v389 : BitVec 32 := Scalar.addi v3 c5_i32
  let v446 : Index := Scalar.indexCast v389
  let c8_145 : Index := 8#32
  ![v445.toNat, v446.toNat, 8]
def k0_off101 (i : grid0.Coords) (k0_t1 : Fin k0_t1_loop.trips) : Fin 3 → Nat :=
  let arg0 : BitVec 32 := BitVec.ofNat 32 (i 0).val
  let v450 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c5_i32 : BitVec 32 := 5#32
  let v389 : BitVec 32 := Scalar.addi v3 c5_i32
  let v451 : Index := Scalar.indexCast v389
  let c9_146 : Index := 9#32
  ![v450.toNat, v451.toNat, 9]
def k0_off102 (k0_t1 : Fin k0_t1_loop.trips) : Fin 3 → Nat :=
  let c0_148 : Index := 0#32
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c5_i32 : BitVec 32 := 5#32
  let v389 : BitVec 32 := Scalar.addi v3 c5_i32
  let v462 : Index := Scalar.indexCast v389
  let c0_149 : Index := 0#32
  ![0, v462.toNat, 0]
def k0_off103 (i : grid0.Coords) (k0_t1 : Fin k0_t1_loop.trips) : Fin 3 → Nat :=
  let arg0 : BitVec 32 := BitVec.ofNat 32 (i 0).val
  let v467 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c6_i32 : BitVec 32 := 6#32
  let v466 : BitVec 32 := Scalar.addi v3 c6_i32
  let v468 : Index := Scalar.indexCast v466
  let c0_150 : Index := 0#32
  ![v467.toNat, v468.toNat, 0]
def k0_mult44 (v469 : BitVec 32) : BitVec 32 :=
  v469

def k0_off104 (v469 : BitVec 32) : Fin 3 → Nat :=
  let c0_151 : Index := 0#32
  let v470 : BitVec 32 := v469
  let v471 : Index := Scalar.indexCast v470
  let c0_152 : Index := 0#32
  ![0, v471.toNat, 0]

def k0_chk43 (v469 : BitVec 32) : Prop :=
  (8 ∣ (k0_mult44 v469).toNat) ∧
  (∀ a, (k0_off104 v469) a + S1x16x512.size a ≤ S1x3200x512.size a)
theorem k0_mult44_dvd : ∀ (v469 : BitVec 32) (k0_hw43 : k0_chk43 v469), 8 ∣ (k0_mult44 v469).toNat := fun v469 k0_hw43 => k0_hw43.1
theorem k0_off104_inb : ∀ (v469 : BitVec 32) (k0_hw43 : k0_chk43 v469), ∀ a, (k0_off104 v469) a + S1x16x512.size a ≤ S1x3200x512.size a := fun v469 k0_hw43 => k0_hw43.2

def k0_off105 (i : grid0.Coords) (k0_t1 : Fin k0_t1_loop.trips) : Fin 3 → Nat :=
  let arg0 : BitVec 32 := BitVec.ofNat 32 (i 0).val
  let v474 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c6_i32 : BitVec 32 := 6#32
  let v466 : BitVec 32 := Scalar.addi v3 c6_i32
  let v475 : Index := Scalar.indexCast v466
  let c1_153 : Index := 1#32
  ![v474.toNat, v475.toNat, 1]
def k0_mult45 (v476 : BitVec 32) : BitVec 32 :=
  v476

def k0_off106 (v476 : BitVec 32) : Fin 3 → Nat :=
  let c0_154 : Index := 0#32
  let v477 : BitVec 32 := v476
  let v478 : Index := Scalar.indexCast v477
  let c0_155 : Index := 0#32
  ![0, v478.toNat, 0]

def k0_chk44 (v476 : BitVec 32) : Prop :=
  (8 ∣ (k0_mult45 v476).toNat) ∧
  (∀ a, (k0_off106 v476) a + S1x16x512.size a ≤ S1x3200x512.size a)
theorem k0_mult45_dvd : ∀ (v476 : BitVec 32) (k0_hw44 : k0_chk44 v476), 8 ∣ (k0_mult45 v476).toNat := fun v476 k0_hw44 => k0_hw44.1
theorem k0_off106_inb : ∀ (v476 : BitVec 32) (k0_hw44 : k0_chk44 v476), ∀ a, (k0_off106 v476) a + S1x16x512.size a ≤ S1x3200x512.size a := fun v476 k0_hw44 => k0_hw44.2

def k0_off107 (i : grid0.Coords) (k0_t1 : Fin k0_t1_loop.trips) : Fin 3 → Nat :=
  let arg0 : BitVec 32 := BitVec.ofNat 32 (i 0).val
  let v482 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c6_i32 : BitVec 32 := 6#32
  let v466 : BitVec 32 := Scalar.addi v3 c6_i32
  let v483 : Index := Scalar.indexCast v466
  let c2_156 : Index := 2#32
  ![v482.toNat, v483.toNat, 2]
def k0_mult46 (v484 : BitVec 32) : BitVec 32 :=
  v484

def k0_off108 (v484 : BitVec 32) : Fin 3 → Nat :=
  let c0_157 : Index := 0#32
  let v485 : BitVec 32 := v484
  let v486 : Index := Scalar.indexCast v485
  let c0_158 : Index := 0#32
  ![0, v486.toNat, 0]

def k0_chk45 (v484 : BitVec 32) : Prop :=
  (8 ∣ (k0_mult46 v484).toNat) ∧
  (∀ a, (k0_off108 v484) a + S1x16x512.size a ≤ S1x3200x512.size a)
theorem k0_mult46_dvd : ∀ (v484 : BitVec 32) (k0_hw45 : k0_chk45 v484), 8 ∣ (k0_mult46 v484).toNat := fun v484 k0_hw45 => k0_hw45.1
theorem k0_off108_inb : ∀ (v484 : BitVec 32) (k0_hw45 : k0_chk45 v484), ∀ a, (k0_off108 v484) a + S1x16x512.size a ≤ S1x3200x512.size a := fun v484 k0_hw45 => k0_hw45.2

def k0_off109 (i : grid0.Coords) (k0_t1 : Fin k0_t1_loop.trips) : Fin 3 → Nat :=
  let arg0 : BitVec 32 := BitVec.ofNat 32 (i 0).val
  let v490 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c6_i32 : BitVec 32 := 6#32
  let v466 : BitVec 32 := Scalar.addi v3 c6_i32
  let v491 : Index := Scalar.indexCast v466
  let c3_159 : Index := 3#32
  ![v490.toNat, v491.toNat, 3]
def k0_mult47 (v492 : BitVec 32) : BitVec 32 :=
  v492

def k0_off110 (v492 : BitVec 32) : Fin 3 → Nat :=
  let c0_160 : Index := 0#32
  let v493 : BitVec 32 := v492
  let v494 : Index := Scalar.indexCast v493
  let c0_161 : Index := 0#32
  ![0, v494.toNat, 0]

def k0_chk46 (v492 : BitVec 32) : Prop :=
  (8 ∣ (k0_mult47 v492).toNat) ∧
  (∀ a, (k0_off110 v492) a + S1x16x512.size a ≤ S1x3200x512.size a)
theorem k0_mult47_dvd : ∀ (v492 : BitVec 32) (k0_hw46 : k0_chk46 v492), 8 ∣ (k0_mult47 v492).toNat := fun v492 k0_hw46 => k0_hw46.1
theorem k0_off110_inb : ∀ (v492 : BitVec 32) (k0_hw46 : k0_chk46 v492), ∀ a, (k0_off110 v492) a + S1x16x512.size a ≤ S1x3200x512.size a := fun v492 k0_hw46 => k0_hw46.2

def k0_off111 (i : grid0.Coords) (k0_t1 : Fin k0_t1_loop.trips) : Fin 3 → Nat :=
  let arg0 : BitVec 32 := BitVec.ofNat 32 (i 0).val
  let v498 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c6_i32 : BitVec 32 := 6#32
  let v466 : BitVec 32 := Scalar.addi v3 c6_i32
  let v499 : Index := Scalar.indexCast v466
  let c4_162 : Index := 4#32
  ![v498.toNat, v499.toNat, 4]
def k0_mult48 (v500 : BitVec 32) : BitVec 32 :=
  v500

def k0_off112 (v500 : BitVec 32) : Fin 3 → Nat :=
  let c0_163 : Index := 0#32
  let v501 : BitVec 32 := v500
  let v502 : Index := Scalar.indexCast v501
  let c0_164 : Index := 0#32
  ![0, v502.toNat, 0]

def k0_chk47 (v500 : BitVec 32) : Prop :=
  (8 ∣ (k0_mult48 v500).toNat) ∧
  (∀ a, (k0_off112 v500) a + S1x16x512.size a ≤ S1x3200x512.size a)
theorem k0_mult48_dvd : ∀ (v500 : BitVec 32) (k0_hw47 : k0_chk47 v500), 8 ∣ (k0_mult48 v500).toNat := fun v500 k0_hw47 => k0_hw47.1
theorem k0_off112_inb : ∀ (v500 : BitVec 32) (k0_hw47 : k0_chk47 v500), ∀ a, (k0_off112 v500) a + S1x16x512.size a ≤ S1x3200x512.size a := fun v500 k0_hw47 => k0_hw47.2

def k0_off113 (i : grid0.Coords) (k0_t1 : Fin k0_t1_loop.trips) : Fin 3 → Nat :=
  let arg0 : BitVec 32 := BitVec.ofNat 32 (i 0).val
  let v506 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c6_i32 : BitVec 32 := 6#32
  let v466 : BitVec 32 := Scalar.addi v3 c6_i32
  let v507 : Index := Scalar.indexCast v466
  let c5_165 : Index := 5#32
  ![v506.toNat, v507.toNat, 5]
def k0_mult49 (v508 : BitVec 32) : BitVec 32 :=
  v508

def k0_off114 (v508 : BitVec 32) : Fin 3 → Nat :=
  let c0_166 : Index := 0#32
  let v509 : BitVec 32 := v508
  let v510 : Index := Scalar.indexCast v509
  let c0_167 : Index := 0#32
  ![0, v510.toNat, 0]

def k0_chk48 (v508 : BitVec 32) : Prop :=
  (8 ∣ (k0_mult49 v508).toNat) ∧
  (∀ a, (k0_off114 v508) a + S1x16x512.size a ≤ S1x3200x512.size a)
theorem k0_mult49_dvd : ∀ (v508 : BitVec 32) (k0_hw48 : k0_chk48 v508), 8 ∣ (k0_mult49 v508).toNat := fun v508 k0_hw48 => k0_hw48.1
theorem k0_off114_inb : ∀ (v508 : BitVec 32) (k0_hw48 : k0_chk48 v508), ∀ a, (k0_off114 v508) a + S1x16x512.size a ≤ S1x3200x512.size a := fun v508 k0_hw48 => k0_hw48.2

def k0_off115 (i : grid0.Coords) (k0_t1 : Fin k0_t1_loop.trips) : Fin 3 → Nat :=
  let arg0 : BitVec 32 := BitVec.ofNat 32 (i 0).val
  let v514 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c6_i32 : BitVec 32 := 6#32
  let v466 : BitVec 32 := Scalar.addi v3 c6_i32
  let v515 : Index := Scalar.indexCast v466
  let c6_168 : Index := 6#32
  ![v514.toNat, v515.toNat, 6]
def k0_mult50 (v516 : BitVec 32) : BitVec 32 :=
  v516

def k0_off116 (v516 : BitVec 32) : Fin 3 → Nat :=
  let c0_169 : Index := 0#32
  let v517 : BitVec 32 := v516
  let v518 : Index := Scalar.indexCast v517
  let c0_170 : Index := 0#32
  ![0, v518.toNat, 0]

def k0_chk49 (v516 : BitVec 32) : Prop :=
  (8 ∣ (k0_mult50 v516).toNat) ∧
  (∀ a, (k0_off116 v516) a + S1x16x512.size a ≤ S1x3200x512.size a)
theorem k0_mult50_dvd : ∀ (v516 : BitVec 32) (k0_hw49 : k0_chk49 v516), 8 ∣ (k0_mult50 v516).toNat := fun v516 k0_hw49 => k0_hw49.1
theorem k0_off116_inb : ∀ (v516 : BitVec 32) (k0_hw49 : k0_chk49 v516), ∀ a, (k0_off116 v516) a + S1x16x512.size a ≤ S1x3200x512.size a := fun v516 k0_hw49 => k0_hw49.2

def k0_off117 (i : grid0.Coords) (k0_t1 : Fin k0_t1_loop.trips) : Fin 3 → Nat :=
  let arg0 : BitVec 32 := BitVec.ofNat 32 (i 0).val
  let v522 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c6_i32 : BitVec 32 := 6#32
  let v466 : BitVec 32 := Scalar.addi v3 c6_i32
  let v523 : Index := Scalar.indexCast v466
  let c8_171 : Index := 8#32
  ![v522.toNat, v523.toNat, 8]
def k0_off118 (i : grid0.Coords) (k0_t1 : Fin k0_t1_loop.trips) : Fin 3 → Nat :=
  let arg0 : BitVec 32 := BitVec.ofNat 32 (i 0).val
  let v527 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c6_i32 : BitVec 32 := 6#32
  let v466 : BitVec 32 := Scalar.addi v3 c6_i32
  let v528 : Index := Scalar.indexCast v466
  let c9_172 : Index := 9#32
  ![v527.toNat, v528.toNat, 9]
def k0_off119 (k0_t1 : Fin k0_t1_loop.trips) : Fin 3 → Nat :=
  let c0_174 : Index := 0#32
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c6_i32 : BitVec 32 := 6#32
  let v466 : BitVec 32 := Scalar.addi v3 c6_i32
  let v539 : Index := Scalar.indexCast v466
  let c0_175 : Index := 0#32
  ![0, v539.toNat, 0]
def k0_off120 (i : grid0.Coords) (k0_t1 : Fin k0_t1_loop.trips) : Fin 3 → Nat :=
  let arg0 : BitVec 32 := BitVec.ofNat 32 (i 0).val
  let v544 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c7_i32 : BitVec 32 := 7#32
  let v543 : BitVec 32 := Scalar.addi v3 c7_i32
  let v545 : Index := Scalar.indexCast v543
  let c0_176 : Index := 0#32
  ![v544.toNat, v545.toNat, 0]
def k0_mult51 (v546 : BitVec 32) : BitVec 32 :=
  v546

def k0_off121 (v546 : BitVec 32) : Fin 3 → Nat :=
  let c0_177 : Index := 0#32
  let v547 : BitVec 32 := v546
  let v548 : Index := Scalar.indexCast v547
  let c0_178 : Index := 0#32
  ![0, v548.toNat, 0]

def k0_chk50 (v546 : BitVec 32) : Prop :=
  (8 ∣ (k0_mult51 v546).toNat) ∧
  (∀ a, (k0_off121 v546) a + S1x16x512.size a ≤ S1x3200x512.size a)
theorem k0_mult51_dvd : ∀ (v546 : BitVec 32) (k0_hw50 : k0_chk50 v546), 8 ∣ (k0_mult51 v546).toNat := fun v546 k0_hw50 => k0_hw50.1
theorem k0_off121_inb : ∀ (v546 : BitVec 32) (k0_hw50 : k0_chk50 v546), ∀ a, (k0_off121 v546) a + S1x16x512.size a ≤ S1x3200x512.size a := fun v546 k0_hw50 => k0_hw50.2

def k0_off122 (i : grid0.Coords) (k0_t1 : Fin k0_t1_loop.trips) : Fin 3 → Nat :=
  let arg0 : BitVec 32 := BitVec.ofNat 32 (i 0).val
  let v551 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c7_i32 : BitVec 32 := 7#32
  let v543 : BitVec 32 := Scalar.addi v3 c7_i32
  let v552 : Index := Scalar.indexCast v543
  let c1_179 : Index := 1#32
  ![v551.toNat, v552.toNat, 1]
def k0_mult52 (v553 : BitVec 32) : BitVec 32 :=
  v553

def k0_off123 (v553 : BitVec 32) : Fin 3 → Nat :=
  let c0_180 : Index := 0#32
  let v554 : BitVec 32 := v553
  let v555 : Index := Scalar.indexCast v554
  let c0_181 : Index := 0#32
  ![0, v555.toNat, 0]

def k0_chk51 (v553 : BitVec 32) : Prop :=
  (8 ∣ (k0_mult52 v553).toNat) ∧
  (∀ a, (k0_off123 v553) a + S1x16x512.size a ≤ S1x3200x512.size a)
theorem k0_mult52_dvd : ∀ (v553 : BitVec 32) (k0_hw51 : k0_chk51 v553), 8 ∣ (k0_mult52 v553).toNat := fun v553 k0_hw51 => k0_hw51.1
theorem k0_off123_inb : ∀ (v553 : BitVec 32) (k0_hw51 : k0_chk51 v553), ∀ a, (k0_off123 v553) a + S1x16x512.size a ≤ S1x3200x512.size a := fun v553 k0_hw51 => k0_hw51.2

def k0_off124 (i : grid0.Coords) (k0_t1 : Fin k0_t1_loop.trips) : Fin 3 → Nat :=
  let arg0 : BitVec 32 := BitVec.ofNat 32 (i 0).val
  let v559 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c7_i32 : BitVec 32 := 7#32
  let v543 : BitVec 32 := Scalar.addi v3 c7_i32
  let v560 : Index := Scalar.indexCast v543
  let c2_182 : Index := 2#32
  ![v559.toNat, v560.toNat, 2]
def k0_mult53 (v561 : BitVec 32) : BitVec 32 :=
  v561

def k0_off125 (v561 : BitVec 32) : Fin 3 → Nat :=
  let c0_183 : Index := 0#32
  let v562 : BitVec 32 := v561
  let v563 : Index := Scalar.indexCast v562
  let c0_184 : Index := 0#32
  ![0, v563.toNat, 0]

def k0_chk52 (v561 : BitVec 32) : Prop :=
  (8 ∣ (k0_mult53 v561).toNat) ∧
  (∀ a, (k0_off125 v561) a + S1x16x512.size a ≤ S1x3200x512.size a)
theorem k0_mult53_dvd : ∀ (v561 : BitVec 32) (k0_hw52 : k0_chk52 v561), 8 ∣ (k0_mult53 v561).toNat := fun v561 k0_hw52 => k0_hw52.1
theorem k0_off125_inb : ∀ (v561 : BitVec 32) (k0_hw52 : k0_chk52 v561), ∀ a, (k0_off125 v561) a + S1x16x512.size a ≤ S1x3200x512.size a := fun v561 k0_hw52 => k0_hw52.2

def k0_off126 (i : grid0.Coords) (k0_t1 : Fin k0_t1_loop.trips) : Fin 3 → Nat :=
  let arg0 : BitVec 32 := BitVec.ofNat 32 (i 0).val
  let v567 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c7_i32 : BitVec 32 := 7#32
  let v543 : BitVec 32 := Scalar.addi v3 c7_i32
  let v568 : Index := Scalar.indexCast v543
  let c3_185 : Index := 3#32
  ![v567.toNat, v568.toNat, 3]
def k0_mult54 (v569 : BitVec 32) : BitVec 32 :=
  v569

def k0_off127 (v569 : BitVec 32) : Fin 3 → Nat :=
  let c0_186 : Index := 0#32
  let v570 : BitVec 32 := v569
  let v571 : Index := Scalar.indexCast v570
  let c0_187 : Index := 0#32
  ![0, v571.toNat, 0]

def k0_chk53 (v569 : BitVec 32) : Prop :=
  (8 ∣ (k0_mult54 v569).toNat) ∧
  (∀ a, (k0_off127 v569) a + S1x16x512.size a ≤ S1x3200x512.size a)
theorem k0_mult54_dvd : ∀ (v569 : BitVec 32) (k0_hw53 : k0_chk53 v569), 8 ∣ (k0_mult54 v569).toNat := fun v569 k0_hw53 => k0_hw53.1
theorem k0_off127_inb : ∀ (v569 : BitVec 32) (k0_hw53 : k0_chk53 v569), ∀ a, (k0_off127 v569) a + S1x16x512.size a ≤ S1x3200x512.size a := fun v569 k0_hw53 => k0_hw53.2

def k0_off128 (i : grid0.Coords) (k0_t1 : Fin k0_t1_loop.trips) : Fin 3 → Nat :=
  let arg0 : BitVec 32 := BitVec.ofNat 32 (i 0).val
  let v575 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c7_i32 : BitVec 32 := 7#32
  let v543 : BitVec 32 := Scalar.addi v3 c7_i32
  let v576 : Index := Scalar.indexCast v543
  let c4_188 : Index := 4#32
  ![v575.toNat, v576.toNat, 4]
def k0_mult55 (v577 : BitVec 32) : BitVec 32 :=
  v577

def k0_off129 (v577 : BitVec 32) : Fin 3 → Nat :=
  let c0_189 : Index := 0#32
  let v578 : BitVec 32 := v577
  let v579 : Index := Scalar.indexCast v578
  let c0_190 : Index := 0#32
  ![0, v579.toNat, 0]

def k0_chk54 (v577 : BitVec 32) : Prop :=
  (8 ∣ (k0_mult55 v577).toNat) ∧
  (∀ a, (k0_off129 v577) a + S1x16x512.size a ≤ S1x3200x512.size a)
theorem k0_mult55_dvd : ∀ (v577 : BitVec 32) (k0_hw54 : k0_chk54 v577), 8 ∣ (k0_mult55 v577).toNat := fun v577 k0_hw54 => k0_hw54.1
theorem k0_off129_inb : ∀ (v577 : BitVec 32) (k0_hw54 : k0_chk54 v577), ∀ a, (k0_off129 v577) a + S1x16x512.size a ≤ S1x3200x512.size a := fun v577 k0_hw54 => k0_hw54.2

def k0_off130 (i : grid0.Coords) (k0_t1 : Fin k0_t1_loop.trips) : Fin 3 → Nat :=
  let arg0 : BitVec 32 := BitVec.ofNat 32 (i 0).val
  let v583 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c7_i32 : BitVec 32 := 7#32
  let v543 : BitVec 32 := Scalar.addi v3 c7_i32
  let v584 : Index := Scalar.indexCast v543
  let c5_191 : Index := 5#32
  ![v583.toNat, v584.toNat, 5]
def k0_mult56 (v585 : BitVec 32) : BitVec 32 :=
  v585

def k0_off131 (v585 : BitVec 32) : Fin 3 → Nat :=
  let c0_192 : Index := 0#32
  let v586 : BitVec 32 := v585
  let v587 : Index := Scalar.indexCast v586
  let c0_193 : Index := 0#32
  ![0, v587.toNat, 0]

def k0_chk55 (v585 : BitVec 32) : Prop :=
  (8 ∣ (k0_mult56 v585).toNat) ∧
  (∀ a, (k0_off131 v585) a + S1x16x512.size a ≤ S1x3200x512.size a)
theorem k0_mult56_dvd : ∀ (v585 : BitVec 32) (k0_hw55 : k0_chk55 v585), 8 ∣ (k0_mult56 v585).toNat := fun v585 k0_hw55 => k0_hw55.1
theorem k0_off131_inb : ∀ (v585 : BitVec 32) (k0_hw55 : k0_chk55 v585), ∀ a, (k0_off131 v585) a + S1x16x512.size a ≤ S1x3200x512.size a := fun v585 k0_hw55 => k0_hw55.2

def k0_off132 (i : grid0.Coords) (k0_t1 : Fin k0_t1_loop.trips) : Fin 3 → Nat :=
  let arg0 : BitVec 32 := BitVec.ofNat 32 (i 0).val
  let v591 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c7_i32 : BitVec 32 := 7#32
  let v543 : BitVec 32 := Scalar.addi v3 c7_i32
  let v592 : Index := Scalar.indexCast v543
  let c6_194 : Index := 6#32
  ![v591.toNat, v592.toNat, 6]
def k0_mult57 (v593 : BitVec 32) : BitVec 32 :=
  v593

def k0_off133 (v593 : BitVec 32) : Fin 3 → Nat :=
  let c0_195 : Index := 0#32
  let v594 : BitVec 32 := v593
  let v595 : Index := Scalar.indexCast v594
  let c0_196 : Index := 0#32
  ![0, v595.toNat, 0]

def k0_chk56 (v593 : BitVec 32) : Prop :=
  (8 ∣ (k0_mult57 v593).toNat) ∧
  (∀ a, (k0_off133 v593) a + S1x16x512.size a ≤ S1x3200x512.size a)
theorem k0_mult57_dvd : ∀ (v593 : BitVec 32) (k0_hw56 : k0_chk56 v593), 8 ∣ (k0_mult57 v593).toNat := fun v593 k0_hw56 => k0_hw56.1
theorem k0_off133_inb : ∀ (v593 : BitVec 32) (k0_hw56 : k0_chk56 v593), ∀ a, (k0_off133 v593) a + S1x16x512.size a ≤ S1x3200x512.size a := fun v593 k0_hw56 => k0_hw56.2

def k0_off134 (i : grid0.Coords) (k0_t1 : Fin k0_t1_loop.trips) : Fin 3 → Nat :=
  let arg0 : BitVec 32 := BitVec.ofNat 32 (i 0).val
  let v599 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c7_i32 : BitVec 32 := 7#32
  let v543 : BitVec 32 := Scalar.addi v3 c7_i32
  let v600 : Index := Scalar.indexCast v543
  let c8_197 : Index := 8#32
  ![v599.toNat, v600.toNat, 8]
def k0_off135 (i : grid0.Coords) (k0_t1 : Fin k0_t1_loop.trips) : Fin 3 → Nat :=
  let arg0 : BitVec 32 := BitVec.ofNat 32 (i 0).val
  let v604 : Index := Scalar.indexCast arg0
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c7_i32 : BitVec 32 := 7#32
  let v543 : BitVec 32 := Scalar.addi v3 c7_i32
  let v605 : Index := Scalar.indexCast v543
  let c9_198 : Index := 9#32
  ![v604.toNat, v605.toNat, 9]
def k0_off136 (k0_t1 : Fin k0_t1_loop.trips) : Fin 3 → Nat :=
  let c0_200 : Index := 0#32
  let c0_i32 : BitVec 32 := 0#32
  let c1_i32 : BitVec 32 := 1#32
  let arg4 : BitVec 32 := Scf.iv c0_i32 c1_i32 k0_t1
  let c8_i32 : BitVec 32 := 8#32
  let v2 : BitVec 32 := Scalar.muli arg4 c8_i32
  let v3 : BitVec 32 := v2
  let c7_i32 : BitVec 32 := 7#32
  let v543 : BitVec 32 := Scalar.addi v3 c7_i32
  let v616 : Index := Scalar.indexCast v543
  let c0_201 : Index := 0#32
  ![0, v616.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3200x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S2x512x50x64 : Shape := ⟨4, ![2, 512, 50, 64]⟩
abbrev S2x128x4 : Shape := ⟨3, ![2, 128, 4]⟩
abbrev S4 : Shape := ⟨1, ![4]⟩
abbrev S1x1x4 : Shape := ⟨3, ![1, 1, 4]⟩
abbrev S2x128x1 : Shape := ⟨3, ![2, 128, 1]⟩
abbrev S2x128 : Shape := ⟨2, ![2, 128]⟩
abbrev S_ : Shape := ⟨0, ![]⟩
abbrev S50 : Shape := ⟨1, ![50]⟩
abbrev S64 : Shape := ⟨1, ![64]⟩
abbrev S1x1x50 : Shape := ⟨3, ![1, 1, 50]⟩
abbrev S2x128x50 : Shape := ⟨3, ![2, 128, 50]⟩
abbrev S1x1x64 : Shape := ⟨3, ![1, 1, 64]⟩
abbrev S2x128x64 : Shape := ⟨3, ![2, 128, 64]⟩
abbrev S2x128x50x1 : Shape := ⟨4, ![2, 128, 50, 1]⟩
abbrev S2x128x1x64 : Shape := ⟨4, ![2, 128, 1, 64]⟩
abbrev S2x128x50x64 : Shape := ⟨4, ![2, 128, 50, 64]⟩
abbrev S2x128x1x50x64 : Shape := ⟨5, ![2, 128, 1, 50, 64]⟩
abbrev S2x1x512x50x64 : Shape := ⟨5, ![2, 1, 512, 50, 64]⟩
abbrev S2x128x512x50x64 : Shape := ⟨5, ![2, 128, 512, 50, 64]⟩
abbrev S2x128x512 : Shape := ⟨3, ![2, 128, 512]⟩

abbrev nBuf : Space → Nat
  | .hbm => 124
  | .vmem => 0
  | .smem => 0
  | _ => 0

abbrev bufTy : (tb : Table) → Fin (tcTables nBuf tb) → BufTy
  | .hbm, ⟨0, _⟩ => ⟨S2x512x50x64, .f32⟩
  | .hbm, ⟨1, _⟩ => ⟨S2x128x4, .f32⟩
  | .hbm, ⟨2, _⟩ => ⟨S4, .f32⟩
  | .hbm, ⟨3, _⟩ => ⟨S1x1x4, .f32⟩
  | .hbm, ⟨4, _⟩ => ⟨S2x128x4, .f32⟩
  | .hbm, ⟨5, _⟩ => ⟨S2x128x4, .f32⟩
  | .hbm, ⟨6, _⟩ => ⟨S2x128x1, .f32⟩
  | .hbm, ⟨7, _⟩ => ⟨S2x128, .f32⟩
  | .hbm, ⟨8, _⟩ => ⟨S_, .f32⟩
  | .hbm, ⟨9, _⟩ => ⟨S2x128, .f32⟩
  | .hbm, ⟨10, _⟩ => ⟨S2x128, .f32⟩
  | .hbm, ⟨11, _⟩ => ⟨S2x128, .f32⟩
  | .hbm, ⟨12, _⟩ => ⟨S2x128, .i32⟩
  | .hbm, ⟨13, _⟩ => ⟨S_, .i32⟩
  | .hbm, ⟨14, _⟩ => ⟨S_, .i32⟩
  | .hbm, ⟨15, _⟩ => ⟨S2x128, .i32⟩
  | .hbm, ⟨16, _⟩ => ⟨S2x128, .i32⟩
  | .hbm, ⟨17, _⟩ => ⟨S2x128x1, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S2x128, .f32⟩
  | .hbm, ⟨23, _⟩ => ⟨S2x128, .i32⟩
  | .hbm, ⟨24, _⟩ => ⟨S_, .i32⟩
  | .hbm, ⟨25, _⟩ => ⟨S_, .i32⟩
  | .hbm, ⟨26, _⟩ => ⟨S2x128, .i32⟩
  | .hbm, ⟨27, _⟩ => ⟨S2x128, .i32⟩
  | .hbm, ⟨28, _⟩ => ⟨S2x128x1, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S2x128, .i32⟩
  | .hbm, ⟨35, _⟩ => ⟨S_, .i32⟩
  | .hbm, ⟨36, _⟩ => ⟨S_, .i32⟩
  | .hbm, ⟨37, _⟩ => ⟨S2x128, .i32⟩
  | .hbm, ⟨38, _⟩ => ⟨S2x128, .i32⟩
  | .hbm, ⟨39, _⟩ => ⟨S2x128x1, .f32⟩
  | .hbm, ⟨40, _⟩ => ⟨S2x128, .f32⟩
  | .hbm, ⟨41, _⟩ => ⟨S_, .f32⟩
  | .hbm, ⟨42, _⟩ => ⟨S2x128, .f32⟩
  | .hbm, ⟨43, _⟩ => ⟨S2x128, .f32⟩
  | .hbm, ⟨44, _⟩ => ⟨S2x128, .f32⟩
  | .hbm, ⟨45, _⟩ => ⟨S2x128, .i32⟩
  | .hbm, ⟨46, _⟩ => ⟨S_, .i32⟩
  | .hbm, ⟨47, _⟩ => ⟨S_, .i32⟩
  | .hbm, ⟨48, _⟩ => ⟨S2x128, .i32⟩
  | .hbm, ⟨49, _⟩ => ⟨S2x128, .i32⟩
  | .hbm, ⟨50, _⟩ => ⟨S_, .i32⟩
  | .hbm, ⟨51, _⟩ => ⟨S2x128, .i32⟩
  | .hbm, ⟨52, _⟩ => ⟨S2x128, .i1⟩
  | .hbm, ⟨53, _⟩ => ⟨S_, .i32⟩
  | .hbm, ⟨54, _⟩ => ⟨S2x128, .i32⟩
  | .hbm, ⟨55, _⟩ => ⟨S2x128, .i1⟩
  | .hbm, ⟨56, _⟩ => ⟨S2x128, .i1⟩
  | .hbm, ⟨57, _⟩ => ⟨S_, .i32⟩
  | .hbm, ⟨58, _⟩ => ⟨S2x128, .i32⟩
  | .hbm, ⟨59, _⟩ => ⟨S2x128, .i32⟩
  | .hbm, ⟨60, _⟩ => ⟨S2x128, .i32⟩
  | .hbm, ⟨61, _⟩ => ⟨S_, .i32⟩
  | .hbm, ⟨62, _⟩ => ⟨S2x128, .i32⟩
  | .hbm, ⟨63, _⟩ => ⟨S2x128, .i1⟩
  | .hbm, ⟨64, _⟩ => ⟨S_, .i32⟩
  | .hbm, ⟨65, _⟩ => ⟨S2x128, .i32⟩
  | .hbm, ⟨66, _⟩ => ⟨S2x128, .i1⟩
  | .hbm, ⟨67, _⟩ => ⟨S2x128, .i1⟩
  | .hbm, ⟨68, _⟩ => ⟨S_, .i32⟩
  | .hbm, ⟨69, _⟩ => ⟨S2x128, .i32⟩
  | .hbm, ⟨70, _⟩ => ⟨S2x128, .i32⟩
  | .hbm, ⟨71, _⟩ => ⟨S2x128, .i32⟩
  | .hbm, ⟨72, _⟩ => ⟨S_, .i32⟩
  | .hbm, ⟨73, _⟩ => ⟨S2x128, .i32⟩
  | .hbm, ⟨74, _⟩ => ⟨S2x128, .i1⟩
  | .hbm, ⟨75, _⟩ => ⟨S_, .i32⟩
  | .hbm, ⟨76, _⟩ => ⟨S_, .i32⟩
  | .hbm, ⟨77, _⟩ => ⟨S2x128, .i32⟩
  | .hbm, ⟨78, _⟩ => ⟨S2x128, .i32⟩
  | .hbm, ⟨79, _⟩ => ⟨S_, .i32⟩
  | .hbm, ⟨80, _⟩ => ⟨S2x128, .i32⟩
  | .hbm, ⟨81, _⟩ => ⟨S2x128, .i1⟩
  | .hbm, ⟨82, _⟩ => ⟨S_, .i32⟩
  | .hbm, ⟨83, _⟩ => ⟨S_, .i32⟩
  | .hbm, ⟨84, _⟩ => ⟨S2x128, .i32⟩
  | .hbm, ⟨85, _⟩ => ⟨S2x128, .i32⟩
  | .hbm, ⟨86, _⟩ => ⟨S50, .i32⟩
  | .hbm, ⟨87, _⟩ => ⟨S64, .i32⟩
  | .hbm, ⟨88, _⟩ => ⟨S1x1x50, .i32⟩
  | .hbm, ⟨89, _⟩ => ⟨S2x128x1, .i32⟩
  | .hbm, ⟨90, _⟩ => ⟨S2x128x50, .i32⟩
  | .hbm, ⟨91, _⟩ => ⟨S2x128x50, .i32⟩
  | .hbm, ⟨92, _⟩ => ⟨S2x128x50, .i1⟩
  | .hbm, ⟨93, _⟩ => ⟨S1x1x50, .i32⟩
  | .hbm, ⟨94, _⟩ => ⟨S2x128x1, .i32⟩
  | .hbm, ⟨95, _⟩ => ⟨S2x128x50, .i32⟩
  | .hbm, ⟨96, _⟩ => ⟨S2x128x50, .i32⟩
  | .hbm, ⟨97, _⟩ => ⟨S2x128x50, .i1⟩
  | .hbm, ⟨98, _⟩ => ⟨S2x128x50, .i1⟩
  | .hbm, ⟨99, _⟩ => ⟨S1x1x64, .i32⟩
  | .hbm, ⟨100, _⟩ => ⟨S2x128x1, .i32⟩
  | .hbm, ⟨101, _⟩ => ⟨S2x128x64, .i32⟩
  | .hbm, ⟨102, _⟩ => ⟨S2x128x64, .i32⟩
  | .hbm, ⟨103, _⟩ => ⟨S2x128x64, .i1⟩
  | .hbm, ⟨104, _⟩ => ⟨S1x1x64, .i32⟩
  | .hbm, ⟨105, _⟩ => ⟨S2x128x1, .i32⟩
  | .hbm, ⟨106, _⟩ => ⟨S2x128x64, .i32⟩
  | .hbm, ⟨107, _⟩ => ⟨S2x128x64, .i32⟩
  | .hbm, ⟨108, _⟩ => ⟨S2x128x64, .i1⟩
  | .hbm, ⟨109, _⟩ => ⟨S2x128x64, .i1⟩
  | .hbm, ⟨110, _⟩ => ⟨S2x128x50x1, .i1⟩
  | .hbm, ⟨111, _⟩ => ⟨S2x128x1x64, .i1⟩
  | .hbm, ⟨112, _⟩ => ⟨S2x128x50x64, .i1⟩
  | .hbm, ⟨113, _⟩ => ⟨S2x128x50x64, .i1⟩
  | .hbm, ⟨114, _⟩ => ⟨S2x128x50x64, .i1⟩
  | .hbm, ⟨115, _⟩ => ⟨S2x128x1x50x64, .i1⟩
  | .hbm, ⟨116, _⟩ => ⟨S2x1x512x50x64, .f32⟩
  | .hbm, ⟨117, _⟩ => ⟨S_, .f32⟩
  | .hbm, ⟨118, _⟩ => ⟨S2x128x512x50x64, .i1⟩
  | .hbm, ⟨119, _⟩ => ⟨S2x128x512x50x64, .f32⟩
  | .hbm, ⟨120, _⟩ => ⟨S2x128x512x50x64, .f32⟩
  | .hbm, ⟨121, _⟩ => ⟨S2x128x512x50x64, .f32⟩
  | .hbm, ⟨122, _⟩ => ⟨S_, .f32⟩
  | .hbm, ⟨123, _⟩ => ⟨S2x128x512, .f32⟩
  | _, _ => ⟨S2x512x50x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_call2_v0 : Ref sig .tc := ⟨.hbm, 36, rfl⟩
abbrev main_call2_v1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_call3_v0 : Ref sig .tc := ⟨.hbm, 47, rfl⟩
abbrev main_call3_v1 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_c_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_13 : Ref sig .tc := ⟨.hbm, 72, rfl⟩
abbrev main_v47 : Ref sig .tc := ⟨.hbm, 73, rfl⟩
abbrev main_v48 : Ref sig .tc := ⟨.hbm, 74, rfl⟩
abbrev main_c_14 : Ref sig .tc := ⟨.hbm, 75, rfl⟩
abbrev main_call6_v0 : Ref sig .tc := ⟨.hbm, 76, rfl⟩
abbrev main_call6_v1 : Ref sig .tc := ⟨.hbm, 77, rfl⟩
abbrev main_v49 : Ref sig .tc := ⟨.hbm, 78, rfl⟩
abbrev main_c_15 : Ref sig .tc := ⟨.hbm, 79, rfl⟩
abbrev main_v50 : Ref sig .tc := ⟨.hbm, 80, rfl⟩
abbrev main_v51 : Ref sig .tc := ⟨.hbm, 81, rfl⟩
abbrev main_c_16 : Ref sig .tc := ⟨.hbm, 82, rfl⟩
abbrev main_call7_v0 : Ref sig .tc := ⟨.hbm, 83, rfl⟩
abbrev main_call7_v1 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_17 : Ref sig .tc := ⟨.hbm, 117, rfl⟩
abbrev main_call8_v0 : Ref sig .tc := ⟨.hbm, 118, rfl⟩
abbrev main_call8_v1 : Ref sig .tc := ⟨.hbm, 119, rfl⟩
abbrev main_call8_v2 : Ref sig .tc := ⟨.hbm, 120, rfl⟩
abbrev main_v84 : Ref sig .tc := ⟨.hbm, 121, rfl⟩
abbrev main_cst_18 : Ref sig .tc := ⟨.hbm, 122, rfl⟩
abbrev main_v85 : Ref sig .tc := ⟨.hbm, 123, rfl⟩

abbrev nD : Nat := 1
abbrev τ : Topo := Topo.v7x

variable {F : FTy → Type} [FloatOps F]
-- ==== Proof.Row.lean ====
module
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.WritesUnit
public import Idealize.ShloMosaic.Lib.Tactic

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What one trip reads and computes -/

/-- The box table as the body is handed it: the whole of its buffer. -/
abbrev tabM : Memref sig .tc .smem S2x128x16 .i32 := Memref.whole main_v86
abbrev tabM_whole : tabM.IsWhole := Memref.isWhole_whole _

/-- The contents of a scalar buffer on core `c`, and the buffer held at half the full share (it is only read). -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The contents of a block buffer on core `c`, and the buffer held whole. -/
abbrev BlkBuf (c : Dev nD) {S : Shape} {e : EltTy} (M : Memref sig .tc .vmem S e) : Type := Buf (Elt F) (M.view.loc (c : Thread nD τ))
abbrev blkPt (c : Dev nD) {S : Shape} {e : EltTy} (M : Memref sig .tc .vmem S e) (f : BlkBuf (F := F) c M) : sProp 𝕄 :=
  M.view.loc (c : Thread nD τ) ↦{fullShare} f

/-- A position of a three-axis array, from its coordinates. -/
def ix3 {p q r : ℕ} (a : Fin p) (b : Fin q) (c : Fin r) : (⟨3, ![p, q, r]⟩ : Shape).Idx
  | ⟨0, _⟩ => a
  | ⟨1, _⟩ => b
  | ⟨2, _⟩ => c

/-- Word `j` of box `n` of image `b` in a table's contents (out of range positions wrap, and are never asked for). -/
def word (t : S2x128x16.Idx → BitVec 32) (b n j : ℕ) : BitVec 32 :=
  t (ix3 (Fin.ofNat 2 b) (Fin.ofNat 128 n) (Fin.ofNat 16 j))

/-- Every row offset the table holds is a multiple of eight whose sixteen rows lie inside the flattened image. -/
def Fit (t : S2x128x16.Idx → BitVec 32) : Prop := ∀ b n j : ℕ, j < 7 → k0_chk1 (word t b n j)

/-- Sixteen rows of the flattened image from row `o` on. -/
def slab {α : Type} (x : S1x3200x512.Idx → α) (o : ℕ) : S1x16x512.Idx → α :=
  fun z => x (ix3 0 (Fin.ofNat 3200 (o + (z 1).val)) (z 2))

/-- The lane numbers of the sixteen columns of a slab. -/
abbrev lanes : IVec S16x1 32 := iota .tc S16x1 32 [0] iota_S16x1_d0_w32
/-- Minus infinity, as the kernel writes it. -/
abbrev negInf : F .f32 := Scalar.ofBits .f32 0xFF800000#32

/-- One box's row of the output: the maximum of seven slabs at the box's offsets, the columns outside the box
    masked to minus infinity, then the maximum over the sixteen columns. -/
def roiRow (x : Vec F S1x3200x512 .f32) (w : ℕ → BitVec 32) : FVec F S1x1x512 .f32 :=
  k0_pay2 lanes negInf
    (k0_pay1 (slab x (w 0).toNat) (slab x (w 1).toNat) (slab x (w 2).toNat) (slab x (w 3).toNat))
    (slab x (w 4).toNat) (slab x (w 5).toNat) (slab x (w 6).toNat) (w 8) (w 9)

/-- Image `b`'s block of the output: row `n` is box `n`'s. -/
def blockOut (b : ℕ) (t : S2x128x16.Idx → BitVec 32) (x : Vec F S1x3200x512 .f32) : Vec F S1x128x512 .f32 :=
  fun y => roiRow x (word t b (y 1).val) (ix3 0 0 (y 2))

/-- A load of sixteen rows at an offset in range reads the slab there. -/
theorem load_slab (arg2 : Memref sig .tc .vmem S1x3200x512 .f32) (f2 : arg2.view.ty.Contents (Elt F)) (v : BitVec 32)
    (off : Fin S1x3200x512.rank → ℕ) (h : off = ![0, v.toNat, 0]) (inb : ∀ a, off a + S1x16x512.size a ≤ S1x3200x512.size a) :
    View.readAt (Elt F) arg2.view (Rect.unit off S1x16x512.size inb).toLoadRect f2 = slab (arg2.view.read (Elt F) f2) v.toNat := by
  subst h
  have hb : v.toNat + 16 ≤ 3200 := inb 1
  funext z
  have hz : (z 1).val < 16 := (z 1).isLt
  refine congrArg (arg2.view.read (Elt F) f2) (funext fun a => Fin.ext ?_)
  match a with
  | ⟨0, _⟩ => show 0 + 1 * (z 0).val = 0; have : (z 0).val < 1 := (z 0).isLt; omega
  | ⟨1, _⟩ => show v.toNat + 1 * (z 1).val = (v.toNat + (z 1).val) % 3200; omega
  | ⟨2, _⟩ => show 0 + 1 * (z 2).val = (z 2).val; omega

/-- A load of one table word reads the word there. -/
theorem load_word (c : Dev nD) (xt : TabBuf (F := F) c tabM) (b n j : ℕ) (off : Fin S2x128x16.rank → ℕ) (h : off = ![b, n, j])
    (inb : ∀ a, off a + S1x1x1.size a ≤ S2x128x16.size a) (x : S1x1x1.Idx) :
    View.readAt (Elt F) tabM.view (Rect.unit off S1x1x1.size inb).toLoadRect xt x = word xt b n j := by
  subst h
  have h0 : b + 1 ≤ 2 := inb 0
  have h1 : n + 1 ≤ 128 := inb 1
  have h2 : j + 1 ≤ 16 := inb 2
  unfold word
  refine congrArg (xt : S2x128x16.Idx → BitVec 32) (funext fun a => Fin.ext ?_)
  match a with
  | ⟨0, _⟩ => show b + 1 * (x 0).val = b % 2; have : (x 0).val < 1 := (x 0).isLt; omega
  | ⟨1, _⟩ => show n + 1 * (x 1).val = n % 128; have : (x 1).val < 1 := (x 1).isLt; omega
  | ⟨2, _⟩ => show j + 1 * (x 2).val = j % 16; have : (x 2).val < 1 := (x 2).isLt; omega

/-- The box a trip's `j`-th row is, as the kernel computes it. -/
theorem trip_row (k : Fin k0_t1_loop.trips) (j : BitVec 32) (hj : j.toNat < 8) :
    (Scalar.addi (Scalar.muli (Scf.iv 0#32 1#32 k) 8#32) j).toNat = 8 * k.val + j.toNat := by
  have hk : k.val < 16 := k.isLt
  generalize k.val = n at *
  show ((0#32 + BitVec.ofNat 32 n * 1#32) * 8#32 + j).toNat = _
  simp [BitVec.toNat_add, BitVec.toNat_mul]
  omega

/-- The position a trip reads its `j`-th box's word `col` at. -/
theorem read_off (i : grid0.Coords) (k : Fin k0_t1_loop.trips) (j : BitVec 32) (hj : j.toNat < 8) (col : ℕ) :
    (![(BitVec.ofNat 32 (i 0).val).toNat, (Scalar.addi (Scalar.muli (Scf.iv 0#32 1#32 k) 8#32) j).toNat, col] : Fin 3 → ℕ)
      = ![(i 0).val, 8 * k.val + j.toNat, col] := by
  have hi : (i 0).val < 2 := (i 0).isLt
  rw [trip_row k j hj, BitVec.toNat_ofNat, Nat.mod_eq_of_lt (by omega)]

/-- A word is one of the row offsets the table holds. -/
def IsOff (t : S2x128x16.Idx → BitVec 32) (v : BitVec 32) : Prop := ∃ b n j : ℕ, j < 7 ∧ v = word t b n j

/-- A trip's load of a word at its box and a column is the table's word there. -/
theorem load_col (c : Dev nD) (xt : TabBuf (F := F) c tabM) (i : grid0.Coords) (k : Fin k0_t1_loop.trips) (j : BitVec 32)
    (col : ℕ) (hj : j.toNat < 8)
    (inb : ∀ a, (![(BitVec.ofNat 32 (i 0).val).toNat, (Scalar.addi (Scalar.muli (Scf.iv 0#32 1#32 k) 8#32) j).toNat, col] : Fin S2x128x16.rank → ℕ) a
      + S1x1x1.size a ≤ S2x128x16.size a) (x : S1x1x1.Idx) :
    View.readAt (Elt F) tabM.view (Rect.unit (s := S2x128x16) (![(BitVec.ofNat 32 (i 0).val).toNat, (Scalar.addi (Scalar.muli (Scf.iv 0#32 1#32 k) 8#32) j).toNat, col] : Fin S2x128x16.rank → ℕ)
      S1x1x1.size inb).toLoadRect xt x = word xt (i 0).val (8 * k.val + j.toNat) col :=
  load_word c xt _ _ _ _ (read_off i k j hj col) inb x

/-- A trip's load of a word at one of the seven offset columns is a row offset of the table. -/
theorem load_isOff (c : Dev nD) (xt : TabBuf (F := F) c tabM) (i : grid0.Coords) (k : Fin k0_t1_loop.trips) (j : BitVec 32)
    (col : ℕ) (inb : ∀ a, (![(BitVec.ofNat 32 (i 0).val).toNat, (Scalar.addi (Scalar.muli (Scf.iv 0#32 1#32 k) 8#32) j).toNat, col] : Fin S2x128x16.rank → ℕ) a
      + S1x1x1.size a ≤ S2x128x16.size a) (x : S1x1x1.Idx) (hj : j.toNat < 8) (hc : col < 7) :
    IsOff xt (View.readAt (Elt F) tabM.view (Rect.unit (s := S2x128x16) (![(BitVec.ofNat 32 (i 0).val).toNat, (Scalar.addi (Scalar.muli (Scf.iv 0#32 1#32 k) 8#32) j).toNat, col] : Fin S2x128x16.rank → ℕ)
      S1x1x1.size inb).toLoadRect xt x) :=
  ⟨_, _, _, hc, load_col c xt i k j col hj inb x⟩

/-- Seven slabs at a box's offsets and its two column bounds give the box's row. -/
theorem roiRow_of (x : Vec F S1x3200x512 .f32) (w : ℕ → BitVec 32) (r0 r1 r2 r3 r4 r5 r6 : Vec F S1x16x512 .f32) (w8 w9 : BitVec 32)
    (h0 : r0 = slab x (w 0).toNat) (h1 : r1 = slab x (w 1).toNat) (h2 : r2 = slab x (w 2).toNat) (h3 : r3 = slab x (w 3).toNat)
    (h4 : r4 = slab x (w 4).toNat) (h5 : r5 = slab x (w 5).toNat) (h6 : r6 = slab x (w 6).toNat) (h8 : w8 = w 8) (h9 : w9 = w 9) :
    k0_pay2 lanes negInf (k0_pay1 r0 r1 r2 r3) r4 r5 r6 w8 w9 = roiRow x w := by
  subst h0 h1 h2 h3 h4 h5 h6 h8 h9; rfl

/-! The eight boxes of a trip compute one function: the printed program cuts each box's operations at other places. -/

section
variable (r0 r1 r2 r3 r4 r5 r6 : Vec F S1x16x512 .f32) (w8 w9 : BitVec 32)

theorem cut1 : k0_pay4 lanes negInf (k0_pay3 r0 r1 r2 r3 r4) r5 r6 w8 w9
    = k0_pay2 lanes negInf (k0_pay1 r0 r1 r2 r3) r4 r5 r6 w8 w9 := (rfl)
theorem cut2 : k0_pay7 lanes negInf (k0_pay5 r0 r1 r2 r3 r4) (k0_pay6 r5) r6 w8 w9
    = k0_pay2 lanes negInf (k0_pay1 r0 r1 r2 r3) r4 r5 r6 w8 w9 := (rfl)
theorem cut3 : k0_pay10 lanes negInf (k0_pay9 (k0_pay8 r0) r1 r2 r3 r4 r5) r6 w8 w9
    = k0_pay2 lanes negInf (k0_pay1 r0 r1 r2 r3) r4 r5 r6 w8 w9 := (rfl)
theorem cut4 : k0_pay13 lanes negInf (k0_pay12 (k0_pay11 r0 r1) r2 r3 r4 r5 r6) w8 w9
    = k0_pay2 lanes negInf (k0_pay1 r0 r1 r2 r3) r4 r5 r6 w8 w9 := (rfl)
theorem cut5 : k0_pay19 lanes negInf (k0_pay16 (k0_pay14 r0 r1) (k0_pay15 r2) r3 r4 r5 r6) (k0_pay17 (F := F) lanes w8) (k0_pay18 (F := F) w9)
    = k0_pay2 lanes negInf (k0_pay1 r0 r1 r2 r3) r4 r5 r6 w8 w9 := (rfl)
theorem cut6 : k0_pay22 (k0_pay21 lanes negInf (k0_pay20 r0 r1 r2) r3 r4 r5 r6 w8 w9)
    = k0_pay2 lanes negInf (k0_pay1 r0 r1 r2 r3) r4 r5 r6 w8 w9 := (rfl)
theorem cut7 : k0_pay24 lanes negInf (k0_pay23 r0 r1 r2 r3) r4 r5 r6 w8 w9
    = k0_pay2 lanes negInf (k0_pay1 r0 r1 r2 r3) r4 r5 r6 w8 w9 := (rfl)

end

/-- A load of sixteen rows at the offset a word names, the word known. -/
theorem load_at (arg2 : Memref sig .tc .vmem S1x3200x512 .f32) (f2 : arg2.view.ty.Contents (Elt F)) (v v' : BitVec 32)
    (inb : ∀ a, (![0, v.toNat, 0] : Fin S1x3200x512.rank → ℕ) a + S1x16x512.size a ≤ S1x3200x512.size a) (hv : v = v') :
    View.readAt (Elt F) arg2.view (Rect.unit (s := S1x3200x512) (![0, v.toNat, 0] : Fin S1x3200x512.rank → ℕ) S1x16x512.size inb).toLoadRect f2
      = slab (arg2.view.read (Elt F) f2) v'.toNat := by
  subst hv; exact load_slab arg2 f2 v _ rfl inb

/-- The newest stored row is read at its own row and is not seen elsewhere. -/
theorem read_cons_row (arg3 : Memref sig .tc .vmem S1x128x512 .f32) (f3 : arg3.view.ty.Contents (Elt F)) (k : Fin k0_t1_loop.trips)
    (j : BitVec 32) (hj : j.toNat < 8)
    (inb : ∀ a, (![0, (Scalar.addi (Scalar.muli (Scf.iv 0#32 1#32 k) 8#32) j).toNat, 0] : Fin S1x128x512.rank → ℕ) a
      + S1x1x512.size a ≤ S1x128x512.size a)
    (w : S1x1x512.Idx → F .f32) (L : List (View.Piece (Elt F) S1x128x512 .f32)) (y : S1x128x512.Idx) :
    arg3.view.read (Elt F) (arg3.view.writes (Elt F) f3
      ((⟨Rect.unit (s := S1x128x512) (![0, (Scalar.addi (Scalar.muli (Scf.iv 0#32 1#32 k) 8#32) j).toNat, 0] : Fin S1x128x512.rank → ℕ) S1x1x512.size inb, w⟩ :
        View.Piece (Elt F) S1x128x512 .f32) :: L)) y
      = if (y 1).val = 8 * k.val + j.toNat then w (ix3 0 0 (y 2)) else arg3.view.read (Elt F) (arg3.view.writes (Elt F) f3 L) y := by
  have e : (![0, (Scalar.addi (Scalar.muli (Scf.iv 0#32 1#32 k) 8#32) j).toNat, 0] : Fin S1x128x512.rank → ℕ)
      = ![0, 8 * k.val + j.toNat, 0] := by rw [trip_row k j hj]
  split_ifs with h
  · refine View.read_writes_cons_unit_of_mem arg3.view f3 inb w L y (ix3 0 0 (y 2)) e fun a => ?_
    match a with
    | ⟨0, _⟩ => show (y 0).val = 0 + 0; have : (y 0).val < 1 := (y 0).isLt; omega
    | ⟨1, _⟩ => show (y 1).val = 8 * k.val + j.toNat + 0; omega
    | ⟨2, _⟩ => show (y 2).val = 0 + (y 2).val; omega
  · refine View.read_writes_cons_unit_of_not_mem arg3.view f3 inb w L y e 1 ?_
    show (y 1).val < 8 * k.val + j.toNat ∨ 8 * k.val + j.toNat + 1 ≤ (y 1).val
    omega

/-- Storing one more of a trip's rows, at its box's value, on top of the trip's earlier rows. -/
theorem read_rows_succ (arg3 : Memref sig .tc .vmem S1x128x512 .f32) (f3 : arg3.view.ty.Contents (Elt F)) (k : Fin k0_t1_loop.trips)
    (b : ℕ) (t : S2x128x16.Idx → BitVec 32) (x : Vec F S1x3200x512 .f32) (y : S1x128x512.Idx)
    (j : BitVec 32) (hj : j.toNat < 8)
    (inb : ∀ a, (![0, (Scalar.addi (Scalar.muli (Scf.iv 0#32 1#32 k) 8#32) j).toNat, 0] : Fin S1x128x512.rank → ℕ) a
      + S1x1x512.size a ≤ S1x128x512.size a)
    (w : S1x1x512.Idx → F .f32) (L : List (View.Piece (Elt F) S1x128x512 .f32))
    (hw : w = roiRow x (word t b (8 * k.val + j.toNat)))
    (hL : arg3.view.read (Elt F) (arg3.view.writes (Elt F) f3 L) y
      = if 8 * k.val ≤ (y 1).val ∧ (y 1).val < 8 * k.val + j.toNat then blockOut b t x y else arg3.view.read (Elt F) f3 y) :
    arg3.view.read (Elt F) (arg3.view.writes (Elt F) f3
      ((⟨Rect.unit (s := S1x128x512) (![0, (Scalar.addi (Scalar.muli (Scf.iv 0#32 1#32 k) 8#32) j).toNat, 0] : Fin S1x128x512.rank → ℕ) S1x1x512.size inb, w⟩ :
        View.Piece (Elt F) S1x128x512 .f32) :: L)) y
      = if 8 * k.val ≤ (y 1).val ∧ (y 1).val < 8 * k.val + (j.toNat + 1) then blockOut b t x y else arg3.view.read (Elt F) f3 y := by
  rw [read_cons_row arg3 f3 k j hj inb w L y, hL, hw]
  by_cases h : (y 1).val = 8 * k.val + j.toNat
  · rw [if_pos h, if_pos (by omega), blockOut, h]
  · rw [if_neg h]
    exact if_congr (by omega) rfl rfl

end Cert.KernelIdeal.Pool

end
-- ==== Proof.Trip.lean ====
module
public import proofs.«01_k».proof.Proof.Row
public import Idealize.ShloMosaic.Lib.Pipeline.FrameBody
public import Idealize.ShloMosaic.Lib.WritesUnit
public import Idealize.ShloMosaic.Lib.Tactic

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## One trip of the box loop -/

/-- What a trip leaves in the output block: its eight boxes' rows at `G`, every other row as it was. -/
def TripPost (arg3 : Memref sig .tc .vmem S1x128x512 .f32) (k : ℕ) (G : Vec F S1x128x512 .f32) (f f' : arg3.view.ty.Contents (Elt F)) : Prop :=
  ∀ y : S1x128x512.Idx, arg3.view.read (Elt F) f' y
    = if 8 * k ≤ (y 1).val ∧ (y 1).val < 8 * k + 8 then G y else arg3.view.read (Elt F) f y

/-- One trip of the loop, on any block buffers: it reads the table and the image, and leaves eight rows of the output at
    those boxes' values. -/
theorem trip (c : Dev nD) (i : grid0.Coords) (arg2 : Memref sig .tc .vmem S1x3200x512 .f32) (harg2 : arg2.IsWhole)
    (arg3 : Memref sig .tc .vmem S1x128x512 .f32) (harg3 : arg3.IsWhole)
    (xt : TabBuf (F := F) c tabM) (f2 : BlkBuf (F := F) c arg2) (f3 : BlkBuf (F := F) c arg3)
    (hfit : ∀ v, IsOff xt v → k0_chk1 v) (k : Fin k0_t1_loop.trips) (K : Unit → sProp 𝕄) :
    iprop(tabPt c tabM xt ∗ blkPt c arg2 f2 ∗ blkPt c arg3 f3
        ∗ (∀ f', iprop(tabPt c tabM xt ∗ blkPt c arg2 f2 ∗ blkPt c arg3 f'
            ∗ ⌜TripPost arg3 k.val (blockOut (i 0).val xt (arg2.view.read (Elt F) f2)) f3 f'⌝) -∗ K ⟨⟩))
      ⊢ wp frame (wpE (defs₀ (F := F)) Variants.none c none) Set.univ
          (k0_t1_body i tabM tabM_whole arg2 harg2 arg3 harg3 (BitVec.ofNat 32 (i 0).val) lanes negInf k ⟨⟩) K := by
  unfold k0_t1_body
  iintro ⟨HT, H2, H3, Hk⟩
  sl_exec_parts (disch := exact hfit _ (load_isOff c xt i k _ _ _ _ (by decide) (by decide)))
  sl_step
  iapply Hk
  isplitl [HT]; · iexact HT
  isplitl [H2]; · iexact H2
  isplitl [H3]; · iexact H3
  ipureintro
  intro y
  refine read_rows_succ arg3 f3 k _ xt _ y 7#32 (by decide) _ _ _ ((cut7 _ _ _ _ _ _ _ _ _).trans (roiRow_of _ _ _ _ _ _ _ _ _ _ _ ?_ ?_ ?_ ?_ ?_ ?_ ?_ ?_ ?_))
    (read_rows_succ arg3 f3 k _ xt _ y 6#32 (by decide) _ _ _ ((cut6 _ _ _ _ _ _ _ _ _).trans (roiRow_of _ _ _ _ _ _ _ _ _ _ _ ?_ ?_ ?_ ?_ ?_ ?_ ?_ ?_ ?_))
    (read_rows_succ arg3 f3 k _ xt _ y 5#32 (by decide) _ _ _ ((cut5 _ _ _ _ _ _ _ _ _).trans (roiRow_of _ _ _ _ _ _ _ _ _ _ _ ?_ ?_ ?_ ?_ ?_ ?_ ?_ ?_ ?_))
    (read_rows_succ arg3 f3 k _ xt _ y 4#32 (by decide) _ _ _ ((cut4 _ _ _ _ _ _ _ _ _).trans (roiRow_of _ _ _ _ _ _ _ _ _ _ _ ?_ ?_ ?_ ?_ ?_ ?_ ?_ ?_ ?_))
    (read_rows_succ arg3 f3 k _ xt _ y 3#32 (by decide) _ _ _ ((cut3 _ _ _ _ _ _ _ _ _).trans (roiRow_of _ _ _ _ _ _ _ _ _ _ _ ?_ ?_ ?_ ?_ ?_ ?_ ?_ ?_ ?_))
    (read_rows_succ arg3 f3 k _ xt _ y 2#32 (by decide) _ _ _ ((cut2 _ _ _ _ _ _ _ _ _).trans (roiRow_of _ _ _ _ _ _ _ _ _ _ _ ?_ ?_ ?_ ?_ ?_ ?_ ?_ ?_ ?_))
    (read_rows_succ arg3 f3 k _ xt _ y 1#32 (by decide) _ _ _ ((cut1 _ _ _ _ _ _ _ _ _).trans (roiRow_of _ _ _ _ _ _ _ _ _ _ _ ?_ ?_ ?_ ?_ ?_ ?_ ?_ ?_ ?_))
    (read_rows_succ arg3 f3 k _ xt _ y 0#32 (by decide) _ _ [] ((roiRow_of _ _ _ _ _ _ _ _ _ _ _ ?_ ?_ ?_ ?_ ?_ ?_ ?_ ?_ ?_)) ?_)))))))
  all_goals first
    | exact load_at _ _ _ _ _ (load_col c xt i k _ _ (by decide) _ _)
    | exact load_col c xt i k _ _ (by decide) _ _
    | (rw [if_neg (by show ¬(_ ∧ _ < 8 * k.val + 0); omega)]; rfl)

end Cert.KernelIdeal.Pool

end
-- ==== Proof.Body.lean ====
module
public import proofs.«01_k».proof.Proof.Trip
public import Idealize.ShloMosaic.Lib.Pipeline.FrameBody
public import Idealize.ShloMosaic.Lib.WritesUnit
public import Idealize.ShloMosaic.Lib.Tactic

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The whole body -/

/-- Before trip `k` the output block's first `8 k` rows are the boxes' values; the table and the image are only read. -/
def inv (c : Dev nD) (i : grid0.Coords) (arg2 : Memref sig .tc .vmem S1x3200x512 .f32) (arg3 : Memref sig .tc .vmem S1x128x512 .f32)
    (xt : TabBuf (F := F) c tabM) (f2 : BlkBuf (F := F) c arg2) (k : ℕ) (_ : Unit) : sProp 𝕄 :=
  iprop(tabPt c tabM xt ∗ blkPt c arg2 f2 ∗ ∃ f3 : BlkBuf (F := F) c arg3, blkPt c arg3 f3
    ∗ ⌜∀ y : S1x128x512.Idx, (y 1).val < 8 * k → arg3.view.read (Elt F) f3 y = blockOut (i 0).val xt (arg2.view.read (Elt F) f2) y⌝)

/-- The kernel's body at a grid point, on whole buffers: the image block and the table are handed back as they were and
    the output block holds its image's boxes' values. -/
theorem body (c : Dev nD) (i : grid0.Coords) (arg2 : Memref sig .tc .vmem S1x3200x512 .f32) (harg2 : arg2.IsWhole)
    (arg3 : Memref sig .tc .vmem S1x128x512 .f32) (harg3 : arg3.IsWhole) (x0 : Vec F S1x3200x512 .f32)
    (xt : TabBuf (F := F) c tabM) (hfit : ∀ v, IsOff xt v → k0_chk1 v) (K : PUnit → sProp 𝕄) :
    iprop(owns (c : Thread nD τ) arg2 fullShare x0 ∗ (∃ d, owns (c : Thread nD τ) arg3 fullShare d) ∗ tabPt c tabM xt
        ∗ (iprop(owns (c : Thread nD τ) arg2 fullShare x0 ∗ owns (c : Thread nD τ) arg3 fullShare (blockOut (i 0).val xt x0)
            ∗ tabPt c tabM xt) -∗ K ⟨⟩))
      ⊢ wp frame (wpE (defs₀ (F := F)) Variants.none c none) Set.univ
          (cc0_roi_max_pool i tabM tabM_whole arg2 harg2 arg3 harg3) K := by
  simp only [cc0_roi_max_pool_eq_skeleton]
  unfold cc0_roi_max_pool_skel
  dsimp only
  unfold owns
  rw [harg2.set_eq_univ, harg3.set_eq_univ]
  iintro ⟨⟨%f2, %hf2, H2⟩, ⟨%d3, %f3, -, H3⟩, HT, Hk⟩
  sl_for (inv c i arg2 arg3 xt f2) $$ [HT H2 H3]
  case region =>
    intro k acc
    unfold inv
    iintro ⟨HT, H2, ⟨%g3, H3, %hg⟩⟩
    iapply (trip c i arg2 harg2 arg3 harg3 xt f2 g3 hfit k _)
    isplitl [HT]; · iexact HT
    isplitl [H2]; · iexact H2
    isplitl [H3]; · iexact H3
    iintro %g ⟨HT, H2, H3, %hp⟩
    isplitl [HT]; · iexact HT
    isplitl [H2]; · iexact H2
    iexists g
    isplitl [H3]; · iexact H3
    ipureintro
    intro y hy
    rw [hp y]
    split_ifs with h
    · rfl
    · exact hg y (by omega)
  · unfold inv
    isplitl [HT]; · iexact HT
    isplitl [H2]; · iexact H2
    iexists f3
    isplitl [H3]; · iexact H3
    ipureintro
    intro y hy
    exact absurd hy (by omega)
  iintro %acc HI
  unfold inv
  icases HI with ⟨HT, H2, ⟨%g3, H3, %hg⟩⟩
  sl_exec
  sl_step
  iapply Hk
  isplitl [H2]
  · iexists f2
    isplitr
    · ipureintro; exact hf2
    iexact H2
  isplitl [H3]
  · iexists g3
    isplitr
    · ipureintro
      subst hf2
      funext y
      exact hg y (y 1).isLt
    iexact H3
  iexact HT

end Cert.KernelIdeal.Pool

end
-- ==== Proof.Setup.lean ====
module
public import proofs.«01_k».proof.Proof.Body
public import Idealize.ShloMosaic.Lib.Pipeline.Kit
public import Idealize.ShloMosaic.Lib.Pipeline.FrameBody
public import Idealize.ShloMosaic.Lib.Pipeline.Value
public import Idealize.ShloMosaic.Lib.Claim
public import Idealize.ShloMosaic.Lib.WordCmp

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- What core `c`'s buffers hold when the pipeline is entered: the host operations run over the launch memory. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b)) b

/-! No host operation takes a fresh buffer. -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor

set_option maxHeartbeats 800000 in
/-- The program up to the pipeline is the host operations, in order. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-- No host operation writes the feature maps. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation writes the boxes. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The table -/

/-- The table's contents when the pipeline is entered. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The pipeline at those contents: no window's place depends on the table. -/
abbrev adm : (pcfg0 (F := F)).Adm := ⟨tbl m, trivial⟩
abbrev cfgM : Pipeline.Cfg sig Λ₀ := cfg0 (adm m)

theorem PhiT_eq (c : Dev nD) : (Pipeline.ΦT pre0 (tbl m) c : sProp 𝕄) = iprop(tabPt c tabM (tbl m 0)) := by
  unfold Pipeline.ΦT Pipeline.prefHeld
  rw [show (Finset.univ : Finset (Fin 1)) = {(0 : Fin 1)} from by decide, bigSep_singleton]
  rfl

/-! ## The windows -/

/-- Window `w`'s block at point `t`, read off its array as the pipeline finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The image's buffer holds its block at every point. -/
theorem before_in {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The block buffers the body is called with at point `t`, and the body there. -/
abbrev msIn (t : Fin (cfgM m).N) : Memref sig .tc .vmem S1x3200x512 .f32 := spec0_0.stage ((cfgM m).slots t 0)
abbrev msOut (t : Fin (cfgM m).N) : Memref sig .tc .vmem S1x128x512 .f32 := spec0_1.stage ((cfgM m).slots t 1)
abbrev bodyAt (t : Fin (cfgM m).N) : Prog (TpuEff nD τ sig (Elt F) Λ₀ .tc) PUnit :=
  cc0_roi_max_pool (grid0.coords t) (Memref.whole main_v86) (Memref.isWhole_whole _) (msIn m t)
    (hstage0_0 (((cfgM m).slots t 0).cast nbuf0_0)) (msOut m t) (hstage0_1 (((cfgM m).slots t 1).cast nbuf0_1))

/-- The output window is written back at every point. -/
theorem flush_out : ∀ t : Fin (cfgM m).N, ((cfgM m).win 1).flush t = true :=
  (fun t => (Pipeline.Window.flushOf_reads cc0_transform_1 reads0_1 hreads0_1 0 (by decide) (by decide)
    (Pipeline.Window.sep_of_coord cc0_transform_1 0 0 (fun _ => rfl) (by decide)) (P := 1) (m := 0) (by decide) rfl t).mpr (Nat.mod_one _) :
    ∀ t : Fin grid0.N, Pipeline.Window.flushOf grid0 true cc0_transform_1 t = true)

end Cert.KernelIdeal.Pool

end
-- ==== Proof.Launch.lean ====
module
public import proofs.«01_k».proof.Proof.Setup
public import Idealize.ShloMosaic.Lib.Pipeline.Kit
public import Idealize.ShloMosaic.Lib.Pipeline.FrameBody
public import Idealize.ShloMosaic.Lib.Pipeline.Value
public import Idealize.ShloMosaic.Lib.Claim
public import Idealize.ShloMosaic.Lib.WordCmp

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- What the pipeline holds as it runs: the arrays as found, each image's block in place, and after point `t` the output
    buffer at that image's boxes' values. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => blockOut ((grid0.coords t) 0).val (tbl m 0) (iblk m c 0 t)
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_in (c : Dev nD) (t : Fin (cfgM m).N) : (dats m 0 c).after 0 t = iblk m c 0 t := by dsimp only [dats]; try rfl
theorem after_out (c : Dev nD) (t : Fin (cfgM m).N) :
    (dats m 0 c).after 1 t = blockOut ((grid0.coords t) 0).val (tbl m 0) (iblk m c 0 t) := by dsimp only [dats]; try rfl

theorem before_eq (c : Dev nD) (t : Fin (cfgM m).N) (d) : (dats m 0 c).before 0 t d = iblk m c 0 t :=
  before_in m (dats m 0 c) (A_eq m c 0) (after_in m c) t d

/-- What the body is called with at point `t`, and what it returns. -/
def bodyPre (c : Dev nD) (t : Fin (cfgM m).N) : sProp 𝕄 :=
  iprop((dats m 0 c).Φ t.castSucc ∗ (dats m 0 c).owesAt () t.castSucc
    ∗ (∃ d, owns (c : Thread nD τ) (msIn m t) fullShare ((dats m 0 c).before 0 t d))
    ∗ (∃ d, owns (c : Thread nD τ) (msOut m t) fullShare ((dats m 0 c).before 1 t d)))

def bodyPost (c : Dev nD) (t : Fin (cfgM m).N) : sProp 𝕄 :=
  iprop((dats m 0 c).Φ t.succ ∗ (dats m 0 c).owesAt () t.succ
    ∗ owns (c : Thread nD τ) (msIn m t) fullShare ((dats m 0 c).after 0 t)
    ∗ owns (c : Thread nD τ) (msOut m t) fullShare ((dats m 0 c).after 1 t))

variable (hfit : ∀ v, IsOff (tbl m 0) v → k0_chk1 v)

include hfit in
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_eq]
  rw [show (dats m 0 c).Φ t.succ = (dats m 0 c).Φ t.castSucc from rfl,
    show (dats m 0 c).owesAt () t.succ = (dats m 0 c).owesAt () t.castSucc from rfl,
    after_in, after_out]
  rw [show (dats m 0 c).Φ t.castSucc = iprop(Pipeline.ΦA spec0 c ∗ Pipeline.ΦT pre0 (tbl m) c) from rfl, PhiT_eq]
  iintro ⟨⟨HΦ, HT⟩, Ho, ⟨%d0, H0⟩, ⟨%d1, H1⟩⟩
  iapply (body c (grid0.coords t) _ _ _ _ (iblk m c 0 t) (tbl m 0) hfit _)
  isplitl [H0]; · iexact H0
  isplitl [H1]; · iexists _; iexact H1
  isplitl [HT]; · iexact HT
  iintro ⟨H0, H1, HT⟩
  isplitl [HΦ HT]
  · isplitl [HΦ]
    · iexact HΦ
    iexact HT
  isplitl [Ho]; · iexact Ho
  isplitl [H0]; · iexact H0
  iexact H1

theorem defs₀_row (t : Fin (cfgM m).N) :
    defs₀ (F := F) .tc (cfgM m).body ((cfgM m).bodyArgs t ((cfgM m).slots t)) = bodyAt m t := by
  unfold defs₀; rw [Defs.onTc_tc]

include hfit in
theorem body_obligation (c : Dev nD) : BodyObligation (dats (F := F) m 0 c) (defs₀ (F := F)) Variants.none () Set.univ := fun t => by
  rw [bigSep_W0, bigSep_W0, defs₀_row m]
  exact triple_restated (sound_body m hfit c t) rfl .rfl fun _ => .rfl

include hfit in
set_option backward.isDefEq.respectTransparency.types false in
/-- The run: every execution ends with the arrays as the pipeline leaves them, every other buffer as the host operations
    left it, and every semaphore at zero. -/
theorem run_main : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP (Q' := _) pcfgs (fun _ => adm m) (dats m) (0 : Fin 1) launch0 defs₀ Variants.none m ρ main
    (hbody := fun c => (body_obligation m hfit c).loose) (hshare := fun c => (dats m 0 c).share_full fun _ => rfl)
    (howed := fun _ _ => rfl) (V := V m) (hmain := hmain m Variants.none) (hA := A_eq m) (hpf := V_pre m) (hΦ := fun _ _ => rfl)

end Cert.KernelIdeal.Pool

end
-- ==== Proof.Out.lean ====
module
public import proofs.«01_k».proof.Proof.Launch
public import Idealize.ShloMosaic.Lib.Pipeline.Kit
public import Idealize.ShloMosaic.Lib.Pipeline.FrameBody
public import Idealize.ShloMosaic.Lib.Pipeline.Value
public import Idealize.ShloMosaic.Lib.Claim
public import Idealize.ShloMosaic.Lib.WordCmp

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result array -/

/-- Image `b` of the flattened feature maps, as one block. -/
def image {α : Type} (f : S2x3200x512.Idx → α) (b : ℕ) : S1x3200x512.Idx → α := fun z => f (ix3 (Fin.ofNat 2 b) (z 1) (z 2))

/-- What the result array ends holding: at image `b`, box `n`, the box's row. -/
def result (c : Dev nD) : Buf (Elt F) ((c : Thread nD τ).loc main_v89) := fun y : S2x128x512.Idx =>
  blockOut (y 0).val (tbl m 0) (image (V m c main_v88) (y 0).val) (ix3 0 (y 1) (y 2))

/-- The grid's point `t` is image `t`. -/
theorem point_val (t : Fin (cfgM m).N) : ((grid0.coords t) 0).val = t.val ∧ t.val < 2 := by
  have h : ∀ t : Fin grid0.N, ((grid0.coords t) 0).val = t.val ∧ t.val < 2 := by decide
  exact h t

/-- The place of the input and of the output block at point `t`. -/
abbrev placeIn (t : Fin (cfgM m).N) (a : Fin 3) : ℕ := ((cfgM m).win 0).index t a
abbrev placeOut (t : Fin (cfgM m).N) (a : Fin 3) : ℕ := ((cfgM m).win 1).index t a

theorem place_in (t : Fin (cfgM m).N) : placeIn m t 0 = t.val ∧ placeIn m t 1 = 0 ∧ placeIn m t 2 = 0 := by
  have h : ∀ t : Fin grid0.N, cc0_transform_0 (grid0.coords t) 0 = t.val ∧ cc0_transform_0 (grid0.coords t) 1 = 0
    ∧ cc0_transform_0 (grid0.coords t) 2 = 0 := by decide
  exact h t

theorem place_out (t : Fin (cfgM m).N) : placeOut m t 0 = t.val ∧ placeOut m t 1 = 0 ∧ placeOut m t 2 = 0 := by
  have h : ∀ t : Fin grid0.N, cc0_transform_1 (grid0.coords t) 0 = t.val ∧ cc0_transform_1 (grid0.coords t) 1 = 0
    ∧ cc0_transform_1 (grid0.coords t) 2 = 0 := by decide
  exact h t

/-- Position `z` of the block at point `t` is position `(t, z 1, z 2)` of the array. -/
theorem emb_in (t : Fin (cfgM m).N) (z : S1x3200x512.Idx) :
    (((cfgM m).win 0).blk t).view.emb z = (ix3 (Fin.ofNat 2 t.val) (z 1) (z 2) : S2x3200x512.Idx) := by
  have ht := (point_val m t).2
  have h0 : (z 0).val < 1 := (z 0).isLt
  obtain ⟨p0, p1, p2⟩ := place_in m t
  funext a
  apply Fin.ext
  match a with
  | ⟨0, _⟩ => show placeIn m t 0 * 1 + 1 * (z 0).val = t.val % 2; omega
  | ⟨1, _⟩ => show placeIn m t 1 * 3200 + 1 * (z 1).val = (z 1).val; omega
  | ⟨2, _⟩ => show placeIn m t 2 * 512 + 1 * (z 2).val = (z 2).val; omega

theorem emb_out (t : Fin (cfgM m).N) (y : S1x128x512.Idx) :
    (((cfgM m).win 1).blk t).view.emb y = (ix3 (Fin.ofNat 2 t.val) (y 1) (y 2) : S2x128x512.Idx) := by
  have ht := (point_val m t).2
  have h0 : (y 0).val < 1 := (y 0).isLt
  obtain ⟨p0, p1, p2⟩ := place_out m t
  funext a
  apply Fin.ext
  match a with
  | ⟨0, _⟩ => show placeOut m t 0 * 1 + 1 * (y 0).val = t.val % 2; omega
  | ⟨1, _⟩ => show placeOut m t 1 * 128 + 1 * (y 1).val = (y 1).val; omega
  | ⟨2, _⟩ => show placeOut m t 2 * 512 + 1 * (y 2).val = (y 2).val; omega

/-- The block the body is handed at point `t` is image `t`. -/
theorem iblk_eq (c : Dev nD) (t : Fin (cfgM m).N) : iblk m c 0 t = image (V m c main_v88) t.val :=
  funext fun z => congrArg (V m c main_v88 : S2x3200x512.Idx → Elt F .f32) (emb_in m t z)

/-- What is written back at point `t` is image `t`'s block of the result. -/
theorem flushed_eq (c : Dev nD) (t : Fin (cfgM m).N) (hf : ((cfgM m).win 1).flush t = true) :
    (dats m 0 c).flushed 1 t = (((cfgM m).win 1).blk t).view.read (Elt F) (result m c) := by
  show ((cfgM m).win 1).cut (grid0.coords t) ((dats m 0 c).after 1 t) = _
  rw [after_out, iblk_eq, (point_val m t).1]
  refine Eq.symm (funext fun y : S1x128x512.Idx => (congrArg (result m c : S2x128x512.Idx → Elt F .f32) (emb_out m t y)).trans ?_)
  have ht : t.val % 2 = t.val := Nat.mod_eq_of_lt (point_val m t).2
  show blockOut (t.val % 2) (tbl m 0) (image (V m c main_v88) (t.val % 2)) _ = blockOut t.val (tbl m 0) (image (V m c main_v88) t.val) _
  rw [ht]
  rfl

/-- The result array ends holding `result`: the two blocks cover it. -/
theorem final_out (c : Dev nD) : (dats m 0 c).arrAt 1 (cfgM m).N = result m c :=
  (dats m 0 c).arrAt_eq_of_cover 1 (result m c) (flushed_eq m c) fun (i : S2x128x512.Idx) =>
    ⟨⟨(i 0).val, lt_of_lt_of_eq (i 0).isLt (by decide : 2 = grid0.N)⟩, flush_out m _, by
      have e := emb_out m ⟨(i 0).val, lt_of_lt_of_eq (i 0).isLt (by decide : 2 = grid0.N)⟩ (ix3 0 (i 1) (i 2))
      have hi : (ix3 (Fin.ofNat 2 (i 0).val) (i 1) (i 2) : S2x128x512.Idx) = i := by
        funext a
        apply Fin.ext
        match a with
        | ⟨0, _⟩ => exact Nat.mod_eq_of_lt (i 0).isLt
        | ⟨1, _⟩ => rfl
        | ⟨2, _⟩ => rfl
      exact Finset.mem_map.mpr ⟨_, Finset.mem_univ _, e.trans hi⟩⟩

/-- The program's run: the result array at `result`, the arguments unchanged, every semaphore at zero. -/
theorem run (hfit : ∀ v, IsOff (tbl m 0) v → k0_chk1 v) : θ_run defs (onTc (τ := τ) (main (F := F))) ⟨m, fun _ => 0, ρ⟩ (fun r =>
    (∀ c : Dev nD, r.2.mem ((c.tc : Thread nD τ).loc main_v89) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨((h.1 c).1 1).trans (final_out m c),
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c)⟩, h.2⟩)
    (run_main m ρ hfit)

end Cert.KernelIdeal.Pool

end
-- ==== Proof.Coords.lean ====
module
public import Idealize.ShloMosaic.Lib.WordCmp
public import Idealize.ShloMosaic.PureOps.Ideal

@[expose] public section

set_option maxRecDepth 16384

noncomputable section

/-! # The corners of one box, as words and as natural numbers -/

namespace Cert.RoiBox

open Idealize.ShloMosaic Idealize.ShloMosaic.WordCmp

/-! ## The words -/

section
variable {F : FTy → Type} [FloatOps F]

/-- A coordinate `a`, divided by the image's extent `d` and scaled to the map's extent `k`. -/
def scaled (d k : BitVec 32) (a : F .f32) : F .f32 :=
  FloatOps.mulf (FloatOps.hostDivf a (FloatOps.ofBits .f32 d)) (FloatOps.ofBits .f32 k)

/-- The scaled coordinate rounded down, at least zero. -/
def lowWord (d k : BitVec 32) (a : F .f32) : BitVec 32 :=
  IntOp.maxsi 0#32 (FloatOps.fptosi 32 (FloatOps.hostUnary .floor (scaled d k a)))

/-- The scaled coordinate rounded up, at least zero. -/
def highWord (d k : BitVec 32) (a : F .f32) : BitVec 32 :=
  IntOp.maxsi 0#32 (FloatOps.fptosi 32 (FloatOps.hostUnary .ceil (scaled d k a)))
end

/-- A box's first row or column: `last` from `n` on. -/
def startWord (n last lo : BitVec 32) : BitVec 32 := Scalar.select (IntOp.cmpi .sge lo n) last lo

/-- The row or column after a box's last: one more where both corners are zero. -/
def endWord (lo hi : BitVec 32) : BitVec 32 :=
  Scalar.select (IntOp.andi (IntOp.cmpi .eq lo 0#32) (IntOp.cmpi .eq hi 0#32)) (IntOp.addi hi 1#32) hi

/-- The sign of a word: zero, minus one or one. -/
def signWord (x : BitVec 32) : BitVec 32 := if x = 0 then 0 else if x.msb = true then -1 else 1

/-- The quotient by eight rounded down, as the host writes it: the quotient toward zero, less one where the signs differ and
    the division is not exact. -/
def eighth (x : BitVec 32) : BitVec 32 :=
  Scalar.select (IntOp.andi (IntOp.cmpi .ne (signWord x) (signWord 8#32)) (IntOp.cmpi .ne (IntOp.remsi .host x 8#32) 0#32))
    (IntOp.subi (IntOp.divsi .host x 8#32) 1#32) (IntOp.divsi .host x 8#32)

/-- The first column of the window read for a box: a multiple of eight, at most 48. -/
def winWord (x1 : BitVec 32) : BitVec 32 := IntOp.minsi (IntOp.muli (eighth x1) 8#32) 48#32

/-- Where the window's first row starts in the flattened map. -/
def firstWord (y1 xs : BitVec 32) : BitVec 32 := IntOp.addi (IntOp.muli y1 64#32) xs

/-- Where the window's row `k` starts: the first row's place again past the box's height. -/
def rowWord (y1 y2 xs k : BitVec 32) : BitVec 32 :=
  Scalar.select (IntOp.cmpi .slt k (IntOp.subi (IntOp.minsi y2 50#32) y1)) (IntOp.addi (firstWord y1 xs) (IntOp.muli k 64#32))
    (firstWord y1 xs)

/-- Row `p` and column `q` are in `[y1, y2)` and `[x1, x2)`. -/
def insideBit (y1 y2 x1 x2 p q : BitVec 32) : BitVec 1 :=
  IntOp.andi (IntOp.andi (IntOp.cmpi .sge p y1) (IntOp.cmpi .slt p y2)) (IntOp.andi (IntOp.cmpi .sge q x1) (IntOp.cmpi .slt q x2))

section
variable {F : FTy → Type} [FloatOps F]

/-- The corners of the box with left, top, right and bottom `l`, `t`, `r`, `b` on the map. -/
def boxX1 (l : F .f32) : BitVec 32 := startWord 64#32 63#32 (lowWord 0x44800000#32 0x42800000#32 l)
def boxY1 (t : F .f32) : BitVec 32 := startWord 50#32 49#32 (lowWord 0x44480000#32 0x42480000#32 t)
def boxX2 (l r : F .f32) : BitVec 32 := endWord (lowWord 0x44800000#32 0x42800000#32 l) (highWord 0x44800000#32 0x42800000#32 r)
def boxY2 (t b : F .f32) : BitVec 32 := endWord (lowWord 0x44480000#32 0x42480000#32 t) (highWord 0x44480000#32 0x42480000#32 b)
end

/-! ## Their values -/

/-- A decided bit is set exactly where the proposition holds. -/
theorem bit_iff (p : Prop) [Decidable p] : (BitVec.ofBool (decide p) = (1 : BitVec 1)) ↔ p := ofBool_decide_eq_one_iff p

theorem ofNat_toNat (w : BitVec 32) : w = BitVec.ofNat 32 w.toNat := by simp

/-- A word clipped below at zero is in the non-negative half. -/
theorem clip_lt (w : BitVec 32) : (IntOp.maxsi 0#32 w).toNat < 2 ^ 31 := by
  unfold IntOp.maxsi
  split
  · decide
  · rename_i h
    rw [BitVec.slt_eq_decide, decide_eq_true_eq, not_lt] at h
    exact (toInt_nonneg_iff_lt_half w).1 h

/-- A clipped word is the integer clipped. -/
theorem clip_toInt (w : BitVec 32) : ((IntOp.maxsi 0#32 w).toNat : ℤ) = max 0 w.toInt := by
  have h := toInt_eq_toNat_of_lt_half (x := IntOp.maxsi 0#32 w) (clip_lt w)
  rw [← h]
  unfold IntOp.maxsi
  rw [BitVec.slt_eq_decide]
  have h0 : (0#32).toInt = 0 := by decide
  rw [h0]
  by_cases hw : w.toInt < 0
  · rw [if_pos (by simpa using hw), h0]; omega
  · rw [if_neg (by simpa using hw)]; omega

theorem startWord_eq {e : ℕ} (he : e < 2 ^ 30) {lo : BitVec 32} (hlo : lo.toNat < 2 ^ 31) :
    startWord (BitVec.ofNat 32 (e + 1)) (BitVec.ofNat 32 e) lo = BitVec.ofNat 32 (min lo.toNat e) := by
  unfold startWord Scalar.select
  rw [ofNat_toNat lo, toNat_ofNat_of_lt (by omega)]
  simp only [cmpi_sge_ofNat (w := 32) (a := lo.toNat) (b := e + 1) (by omega) (by omega), bit_iff]
  split
  · rw [min_eq_right (by omega)]
  · rw [min_eq_left (by omega)]

theorem endWord_toNat {lo hi : BitVec 32} (hhi : hi.toNat < 2 ^ 31) :
    (endWord lo hi).toNat = if lo.toNat = 0 ∧ hi.toNat = 0 then 1 else hi.toNat := by
  unfold endWord Scalar.select
  simp only [cmpi_eq_eq_toNat, andi_ofBool, ← Bool.decide_and, bit_iff]
  split
  · rename_i h
    rw [if_pos (show lo.toNat = 0 ∧ hi.toNat = 0 from h)]
    have : hi = 0#32 := BitVec.eq_of_toNat_eq h.2
    subst this; decide
  · rename_i h
    rw [if_neg (show ¬(lo.toNat = 0 ∧ hi.toNat = 0) from h)]

theorem endWord_lt {lo hi : BitVec 32} (hhi : hi.toNat < 2 ^ 31) : (endWord lo hi).toNat < 2 ^ 31 := by
  rw [endWord_toNat hhi]; split <;> omega

theorem winWord_fin : ∀ x : Fin 64, winWord (BitVec.ofNat 32 x.val) = BitVec.ofNat 32 (min (x.val / 8 * 8) 48) := by decide

/-- The window's first column for a box starting at column `x`. -/
theorem winWord_eq {x : ℕ} (hx : x ≤ 63) : winWord (BitVec.ofNat 32 x) = BitVec.ofNat 32 (min (x / 8 * 8) 48) :=
  winWord_fin ⟨x, by omega⟩

theorem minsi_eq {y : BitVec 32} (hy : y.toNat < 2 ^ 31) : IntOp.minsi y 50#32 = BitVec.ofNat 32 (min y.toNat 50) := by
  unfold IntOp.minsi
  rw [BitVec.slt_eq_decide, toInt_eq_toNat_of_lt_half (x := y) hy]
  have h0 : (50#32).toInt = 50 := by decide
  rw [h0]
  by_cases h : (y.toNat : ℤ) < 50
  · simp only [h, decide_true, if_true]; rw [min_eq_left (by omega)]; exact ofNat_toNat y
  · simp only [h, decide_false]; rw [min_eq_right (by omega)]; rfl

/-- The difference of two small words, as an integer. -/
theorem sub_toInt {a : BitVec 32} {b : ℕ} (ha : a.toNat < 2 ^ 31) (hb : b < 2 ^ 30) :
    (IntOp.subi a (BitVec.ofNat 32 b)).toInt = (a.toNat : ℤ) - b := by
  unfold IntOp.subi
  rw [BitVec.toInt_sub, toInt_eq_toNat_of_lt_half (x := a) ha, toInt_ofNat_of_lt (by omega)]
  apply Int.bmod_eq_of_le <;> omega

/-- Where the window's row `k` starts, as a number. -/
theorem rowWord_eq {y1 xs k : ℕ} {y2 : BitVec 32} (h1 : y1 ≤ 49) (h2 : y2.toNat < 2 ^ 31) (hx : xs ≤ 48) (hk : k < 7) :
    rowWord (BitVec.ofNat 32 y1) y2 (BitVec.ofNat 32 xs) (BitVec.ofNat 32 k)
      = BitVec.ofNat 32 (y1 * 64 + xs + if y1 + k < min y2.toNat 50 then k * 64 else 0) := by
  have hq : (BitVec.ofNat 32 (min y2.toNat 50)).toNat = min y2.toNat 50 := toNat_ofNat_of_lt (by omega)
  unfold rowWord firstWord Scalar.select
  rw [minsi_eq h2, cmpi_slt_eq, sub_toInt (by omega) (by omega), hq, toInt_ofNat_of_lt (by omega)]
  simp only [bit_iff, IntOp.addi, IntOp.muli]
  by_cases h : y1 + k < min y2.toNat 50
  · rw [if_pos (by omega), if_pos h]
    simp [BitVec.ofNat_add, BitVec.ofNat_mul]
  · rw [if_neg (by omega), if_neg h]
    simp [BitVec.ofNat_add, BitVec.ofNat_mul]

/-- Every row's place is a multiple of eight at which sixteen places fit. -/
theorem rowWord_fits {y1 xs k : ℕ} {y2 : BitVec 32} (h1 : y1 ≤ 49) (h2 : y2.toNat < 2 ^ 31) (hx : xs ≤ 48) (h8 : 8 ∣ xs) (hk : k < 7) :
    8 ∣ (rowWord (BitVec.ofNat 32 y1) y2 (BitVec.ofNat 32 xs) (BitVec.ofNat 32 k)).toNat
      ∧ (rowWord (BitVec.ofNat 32 y1) y2 (BitVec.ofNat 32 xs) (BitVec.ofNat 32 k)).toNat + 16 ≤ 3200 := by
  rw [rowWord_eq h1 h2 hx hk, toNat_ofNat_of_lt (by split <;> omega)]
  split <;> omega

/-- Lane `j` of the window is outside the box's columns. -/
theorem outside_iff {x1 xs j : ℕ} {x2 : BitVec 32} (h1 : x1 ≤ 63) (h2 : x2.toNat < 2 ^ 31) (hx : xs ≤ 48) (hj : j < 16) :
    IntOp.ori (IntOp.cmpi .slt (BitVec.ofNat 32 j) (IntOp.subi (BitVec.ofNat 32 x1) (BitVec.ofNat 32 xs)))
        (IntOp.cmpi .sge (BitVec.ofNat 32 j) (IntOp.subi x2 (BitVec.ofNat 32 xs))) = 1#1
      ↔ xs + j < x1 ∨ x2.toNat ≤ xs + j := by
  have hq : (BitVec.ofNat 32 x1).toNat = x1 := toNat_ofNat_of_lt (by omega)
  rw [cmpi_slt_eq, cmpi_sge_eq, sub_toInt (by omega) (by omega), sub_toInt h2 (by omega), hq, toInt_ofNat_of_lt (by omega),
    ori_ofBool, ← Bool.decide_or, ofBool_decide_eq_one_iff]
  omega

theorem insideBit_iff {y1 x1 p q : ℕ} {y2 x2 : BitVec 32} (h1 : y1 ≤ 49) (h2 : y2.toNat < 2 ^ 31) (h3 : x1 ≤ 63) (h4 : x2.toNat < 2 ^ 31)
    (hp : p < 50) (hq : q < 64) :
    insideBit (BitVec.ofNat 32 y1) y2 (BitVec.ofNat 32 x1) x2 (BitVec.ofNat 32 p) (BitVec.ofNat 32 q) = 1#1
      ↔ (y1 ≤ p ∧ p < y2.toNat) ∧ x1 ≤ q ∧ q < x2.toNat := by
  have e1 : (BitVec.ofNat 32 p).toInt = p := toInt_ofNat_of_lt (by omega)
  have e2 : (BitVec.ofNat 32 q).toInt = q := toInt_ofNat_of_lt (by omega)
  have e3 : (BitVec.ofNat 32 y1).toInt = y1 := toInt_ofNat_of_lt (by omega)
  have e4 : (BitVec.ofNat 32 x1).toInt = x1 := toInt_ofNat_of_lt (by omega)
  unfold insideBit
  simp only [cmpi_sge_eq, cmpi_slt_eq, andi_ofBool, ← Bool.decide_and, ofBool_decide_eq_one_iff, e1, e2, e3, e4,
    toInt_eq_toNat_of_lt_half (x := y2) h2, toInt_eq_toNat_of_lt_half (x := x2) h4, Nat.cast_le, Nat.cast_lt]

end Cert.RoiBox
-- ==== Proof.Table.lean ====
module
public import proofs.«01_k».proof.Proof.Setup
public import proofs.«01_k».proof.Proof.Coords
public import Idealize.ShloMosaic.Lib.StableHlo.Run
public import Idealize.ShloMosaic.Lib.Pointwise

@[expose] public section

set_option maxRecDepth 16384

noncomputable section

namespace Cert.KernelIdeal.Pool

open Cert.KernelIdeal.Gen
open Idealize.ShloMosaic Idealize.ShloMosaic.TcCoe Idealize.ShloMosaic.Tactic

variable {F : FTy → Type} [FloatOps F]
open Idealize.ShloMosaic.StableHlo
open Cert.RoiBox

variable (m : (ℓ : Loc nD τ sig) → Buf (Elt F) ℓ)

/-! # What the host writes to the table -/

/-- The corners of box `n` of image `b`, read off the boxes. -/
def left (c : Dev nD) (b : Fin 2) (n : Fin 128) : BitVec 32 :=
  lowWord (F := F) 0x44800000#32 0x42800000#32 (m (c, Proc.tc.devRef main_arg1) (ix3 b n 0))
def top (c : Dev nD) (b : Fin 2) (n : Fin 128) : BitVec 32 :=
  lowWord (F := F) 0x44480000#32 0x42480000#32 (m (c, Proc.tc.devRef main_arg1) (ix3 b n 1))
def right (c : Dev nD) (b : Fin 2) (n : Fin 128) : BitVec 32 :=
  highWord (F := F) 0x44800000#32 0x42800000#32 (m (c, Proc.tc.devRef main_arg1) (ix3 b n 2))
def bottom (c : Dev nD) (b : Fin 2) (n : Fin 128) : BitVec 32 :=
  highWord (F := F) 0x44480000#32 0x42480000#32 (m (c, Proc.tc.devRef main_arg1) (ix3 b n 3))

/-- The box's columns `[x1, x2)` and rows `[y1, y2)`, and the window's first column. -/
def x1 (c : Dev nD) (b : Fin 2) (n : Fin 128) : BitVec 32 := startWord 64#32 63#32 (left m c b n)
def y1 (c : Dev nD) (b : Fin 2) (n : Fin 128) : BitVec 32 := startWord 50#32 49#32 (top m c b n)
def x2 (c : Dev nD) (b : Fin 2) (n : Fin 128) : BitVec 32 := endWord (left m c b n) (right m c b n)
def y2 (c : Dev nD) (b : Fin 2) (n : Fin 128) : BitVec 32 := endWord (top m c b n) (bottom m c b n)
def xs (c : Dev nD) (b : Fin 2) (n : Fin 128) : BitVec 32 := winWord (x1 m c b n)

set_option maxHeartbeats 8000000 in
/-- The table's columns that are read: the rows' places, and the box's columns less the window's first. -/
theorem V_tab (c : Dev nD) (b : Fin 2) (n : Fin 128) (k : Fin 7) :
    V m c main_v86 (ix3 b n ⟨k.val, by omega⟩) = rowWord (y1 m c b n) (y2 m c b n) (xs m c b n) (BitVec.ofNat 32 k.val)
      ∧ V m c main_v86 (ix3 b n 8) = IntOp.subi (x1 m c b n) (xs m c b n)
      ∧ V m c main_v86 (ix3 b n 9) = IntOp.subi (x2 m c b n) (xs m c b n) := by
  change V m c main_v86 (Idealize.ShloMosaic.ix3 b n ⟨k.val, by omega⟩) = _ ∧ V m c main_v86 (Idealize.ShloMosaic.ix3 b n 8) = _ ∧ V m c main_v86 (Idealize.ShloMosaic.ix3 b n 9) = _
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, TRef.nullary, TRef.binary, TRef.ternary, TRef.unary, TRef.toBuf, TRef.ofBuf, cast_eq]
  after_results_simp
  pointwise
  after_results_simp
  pointwise
  refine ⟨?_, ?_, ?_⟩
  · rfl
  · rfl
  · rfl

set_option maxHeartbeats 8000000 in
/-- The feature maps, their two last axes flattened and put first. -/
theorem V_map (c : Dev nD) (b : Fin 2) (p : Fin 3200) (h : Fin 512) :
    V m c main_v88 (ix3 b p h) = m (c, Proc.tc.devRef main_arg0) (ix4 b h ⟨p.val / 64, by omega⟩ ⟨p.val % 64, by omega⟩) := by
  change V m c main_v88 (Idealize.ShloMosaic.ix3 b p h) = _
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, TRef.nullary, TRef.binary, TRef.ternary, TRef.unary, TRef.toBuf, TRef.ofBuf, cast_eq]
  after_results_simp
  pointwise

end Cert.KernelIdeal.Pool
-- ==== Proof.Fit.lean ====
module
public import proofs.«01_k».proof.Proof.Table

@[expose] public section

set_option maxRecDepth 16384

noncomputable section

namespace Cert.KernelIdeal.Pool

open Cert.KernelIdeal.Gen
open Idealize.ShloMosaic Idealize.ShloMosaic.TcCoe Idealize.ShloMosaic.Tactic

variable {F : FTy → Type} [FloatOps F]
open Cert.RoiBox

variable (m : (ℓ : Loc nD τ sig) → Buf (Elt F) ℓ)

/-! # The table's words as numbers: every row the kernel reads lies in the map -/

/-- A box's first column and row, the window's first column, and the row and column after the last. -/
def nx1 (c : Dev nD) (b : Fin 2) (n : Fin 128) : ℕ := min (left m c b n).toNat 63
def ny1 (c : Dev nD) (b : Fin 2) (n : Fin 128) : ℕ := min (top m c b n).toNat 49
def nx2 (c : Dev nD) (b : Fin 2) (n : Fin 128) : ℕ := (x2 m c b n).toNat
def ny2 (c : Dev nD) (b : Fin 2) (n : Fin 128) : ℕ := (y2 m c b n).toNat
def nxs (c : Dev nD) (b : Fin 2) (n : Fin 128) : ℕ := min (nx1 m c b n / 8 * 8) 48

variable (c : Dev nD) (b : Fin 2) (n : Fin 128)

theorem nx1_le : nx1 m c b n ≤ 63 := min_le_right _ _
theorem ny1_le : ny1 m c b n ≤ 49 := min_le_right _ _
theorem nxs_le : nxs m c b n ≤ 48 := min_le_right _ _
theorem eight_dvd_nxs : 8 ∣ nxs m c b n := by unfold nxs; omega

theorem x1_eq : x1 m c b n = BitVec.ofNat 32 (nx1 m c b n) := startWord_eq (e := 63) (by decide) (clip_lt _)
theorem y1_eq : y1 m c b n = BitVec.ofNat 32 (ny1 m c b n) := startWord_eq (e := 49) (by decide) (clip_lt _)
theorem xs_eq : xs m c b n = BitVec.ofNat 32 (nxs m c b n) := by
  unfold xs; rw [x1_eq]; exact winWord_eq (nx1_le m c b n)
theorem x2_lt : (x2 m c b n).toNat < 2 ^ 31 := endWord_lt (clip_lt _)
theorem y2_lt : (y2 m c b n).toNat < 2 ^ 31 := endWord_lt (clip_lt _)

/-- Where row `k` of the window starts, as a number. -/
def nrow (k : ℕ) : ℕ := ny1 m c b n * 64 + nxs m c b n + if ny1 m c b n + k < min (ny2 m c b n) 50 then k * 64 else 0

theorem tab_row {k : ℕ} (hk : k < 7) : tbl m 0 (ix3 b n ⟨k, by omega⟩) = BitVec.ofNat 32 (nrow m c b n k) := by
  obtain rfl : c = 0 := Subsingleton.elim _ _
  refine ((V_tab m 0 b n ⟨k, hk⟩).1).trans ?_
  rw [y1_eq, xs_eq]
  exact rowWord_eq (ny1_le m 0 b n) (y2_lt m 0 b n) (nxs_le m 0 b n) hk

theorem nrow_fits {k : ℕ} (hk : k < 7) : 8 ∣ nrow m c b n k ∧ nrow m c b n k + 16 ≤ 3200 := by
  have h1 := ny1_le m c b n
  have h2 := nxs_le m c b n
  have h3 := eight_dvd_nxs m c b n
  unfold nrow
  split <;> omega

/-- Whatever the boxes, every word the kernel takes for a row's place is a multiple of eight with sixteen places after it. -/
theorem fit (v : BitVec 32) (hv : IsOff (tbl m 0) v) : k0_chk1 v := by
  obtain ⟨b, n, j, hj, rfl⟩ := hv
  have hw : word (tbl m 0) b n j = BitVec.ofNat 32 (nrow m 0 (Fin.ofNat 2 b) (Fin.ofNat 128 n) j) := by
    unfold word
    rw [← tab_row m 0 _ _ hj]
    congr 2
    exact Fin.ext (Nat.mod_eq_of_lt (by omega))
  obtain ⟨h8, hle⟩ := nrow_fits m 0 (Fin.ofNat 2 b) (Fin.ofNat 128 n) hj
  rw [hw]
  have ht : (BitVec.ofNat 32 (nrow m 0 (Fin.ofNat 2 b) (Fin.ofNat 128 n) j)).toNat = nrow m 0 (Fin.ofNat 2 b) (Fin.ofNat 128 n) j :=
    Idealize.ShloMosaic.WordCmp.toNat_ofNat_of_lt (by omega)
  refine ⟨?_, ?_⟩
  · change 8 ∣ (BitVec.ofNat 32 _).toNat
    rw [ht]; exact h8
  · have h : ∀ a : Fin 3, (![0, (BitVec.ofNat 32 (nrow m 0 (Fin.ofNat 2 b) (Fin.ofNat 128 n) j)).toNat, 0] : Fin 3 → ℕ) a + S1x16x512.size a ≤ S1x3200x512.size a := by
      rw [ht]
      intro a
      match a with
      | 0 => exact show (0 : ℕ) + 1 ≤ 1 from le_refl _
      | 1 => exact hle
      | 2 => exact show (0 : ℕ) + 512 ≤ 512 from le_refl _
    exact h

end Cert.KernelIdeal.Pool
-- ==== Proof.Same.lean ====
module
public import proofs.«01_k».proof.Proof.Out
public import proofs.«01_k».proof.Proof.Gen.Kernel
public import proofs.«01_k».proof.Proof.Fit

@[expose] public section

set_option maxRecDepth 65536
set_option maxHeartbeats 0

noncomputable section

/-! # The two prints of the kernel are one program -/

namespace Cert.Proof

open Idealize.ShloMosaic Idealize.ShloMosaic.TcCoe Idealize.SL.Sem

variable {F : FTy → Type} [FloatOps F]

/-- The two prints' host programs are the same text. -/
theorem main_eq : Cert.Kernel.main (F := F) = Cert.KernelIdeal.main (F := F) := (rfl)

/-- So are their kernel bodies. -/
theorem defs0_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- And their definitions, the pipeline added. -/
theorem defs_eq : Cert.Kernel.defs (F := F) = Cert.KernelIdeal.defs (F := F) := by
  unfold Cert.Kernel.defs Cert.KernelIdeal.defs
  rw [defs0_eq]
  rfl

end Cert.Proof

end
-- ==== Proof.RowValue.lean ====
module
public import proofs.«01_k».proof.Proof.Row
public import Idealize.ShloMosaic.Lib.Pointwise
public import Idealize.ShloMosaic.PureOps.Reduce
public import Idealize.ShloMosaic.PureOps.Ideal.Laws

@[expose] public section

set_option maxRecDepth 16384

noncomputable section

namespace Cert.KernelIdeal.Pool

open Cert.KernelIdeal.Gen
open Idealize.ShloMosaic Idealize.ShloMosaic.TcCoe Idealize.ShloMosaic.Tactic

variable {F : FTy → Type} [FloatOps F]

/-! # One box's row of the result on the extended reals -/

theorem negInf_bot : Ideal.ofBits FTy.f32 0xFF800000#32 = ⊥ := by simp [Ideal.ofBits, Ideal.ieee]

/-- A chosen −∞ is at most `u`; the other choice has to be shown so. -/
theorem select_le (b : BitVec 1) (x u : EReal) : Scalar.select b (⊥ : EReal) x ≤ u ↔ b = 1#1 ∨ x ≤ u := by
  unfold Scalar.select
  by_cases h : b = 1
  · simp [h]
  · rw [if_neg h]; exact ⟨Or.inr, fun e => e.resolve_left h⟩

/-- The row is the least upper bound of the window's entries in the lanes inside the box. -/
theorem roiRow_le (x : Vec Ideal S1x3200x512 .f32) (w : ℕ → BitVec 32) (h : Fin 512) (u : EReal) :
    roiRow (F := Ideal) x w (ix3 0 0 h) ≤ u ↔ ∀ j : Fin 16, IntOp.ori (IntOp.cmpi .slt (BitVec.ofNat 32 j.val) (w 8)) (IntOp.cmpi .sge (BitVec.ofNat 32 j.val) (w 9)) = 1#1
      ∨ ∀ k < 7, slab x (w k).toNat (ix3 0 j h) ≤ u := by
  change roiRow (F := Ideal) x w (Idealize.ShloMosaic.ix3 0 0 h) ≤ u ↔ _
  unfold roiRow k0_pay2 k0_pay1
  pointwise
  rw [negInf_bot, Finset.fold_max_le]
  simp only [bot_le, true_and, Finset.mem_univ, true_implies, select_le, max_le_iff]
  refine forall_congr' fun j => or_congr Iff.rfl ⟨fun hs k hk => ?_, fun hs => ?_⟩
  · obtain ⟨⟨⟨⟨⟨⟨h0, h1⟩, h2⟩, h3⟩, h4⟩, h5⟩, h6⟩ := hs
    match k, hk with
    | 0, _ => exact h0
    | 1, _ => exact h1
    | 2, _ => exact h2
    | 3, _ => exact h3
    | 4, _ => exact h4
    | 5, _ => exact h5
    | 6, _ => exact h6
  · exact ⟨⟨⟨⟨⟨⟨hs 0 (by decide), hs 1 (by decide)⟩, hs 2 (by decide)⟩, hs 3 (by decide)⟩, hs 4 (by decide)⟩, hs 5 (by decide)⟩, hs 6 (by decide)⟩

end Cert.KernelIdeal.Pool
-- ==== Proof.RefValue.lean ====
module
public import proofs.«01_k».proof.Proof.Gen.ReferenceIdeal.Run
public import proofs.«01_k».proof.Proof.Coords
public import Idealize.ShloMosaic.Lib.Pointwise
public import Idealize.ShloMosaic.PureOps.Reduce
public import Idealize.ShloMosaic.PureOps.Ideal.Laws

@[expose] public section

set_option maxRecDepth 16384

noncomputable section

namespace Cert.ReferenceIdeal.Pool

open Cert.ReferenceIdeal Cert.ReferenceIdeal.Gen Idealize.ShloMosaic Idealize.ShloMosaic.TcCoe
open Cert.RoiBox

/-! # What the reference holds at one index -/

theorem drop_eq (i : S2x128x512x50x64.Idx) :
    reducesTo_S2x128x512x50x64_S2x128x512_d3_4.drop i = ix3 (i 0) (i 1) (i 2) := by
  funext a
  match a with
  | ⟨0, _⟩ => rfl
  | ⟨1, _⟩ => rfl
  | ⟨2, _⟩ => rfl

/-- The maximum over the two last axes is the least upper bound of their entries and of the start value. -/
theorem reduce_le (x : S2x128x512x50x64.Idx → EReal) (v : S_.Idx → EReal) (b : Fin 2) (n : Fin 128) (h : Fin 512) (u : EReal) :
    Host.reduce (FloatOps.maximumf (F := Ideal) (φ := .f32)) x v reducesTo_S2x128x512x50x64_S2x128x512_d3_4 h_S_ (ix3 b n h) ≤ u
      ↔ v (Shape.Idx.first h_S_) ≤ u ∧ ∀ (p : Fin 50) (q : Fin 64), x (ix5 b n h p q) ≤ u := by
  rw [Host.reduce_eq_fold]
  refine Finset.fold_max_le u |>.trans (and_congr Iff.rfl ⟨fun hs p q => hs _ (Finset.mem_filter.2 ⟨Finset.mem_univ _, ?_⟩), fun hs i hi => ?_⟩)
  · rw [drop_eq]; rfl
  · have e := (Finset.mem_filter.1 hi).2
    rw [drop_eq] at e
    have hi : i = ix5 b n h (i 3) (i 4) := by
      funext a
      match a with
      | ⟨0, _⟩ => exact congrFun e 0
      | ⟨1, _⟩ => exact congrFun e 1
      | ⟨2, _⟩ => exact congrFun e 2
      | ⟨3, _⟩ => rfl
      | ⟨4, _⟩ => rfl
    rw [hi]; exact hs _ _

variable (m : (ℓ : Loc nD τ sig) → Buf (Elt Ideal) ℓ) (c : Dev nD)

/-- The reference's result, as extended reals. -/
def res : S2x128x512.Idx → EReal := Cert.ReferenceIdeal.Value.res_main_v85 (F := Ideal) m c

/-- Feature and box entries, as extended reals. -/
def feat : S2x512x50x64.Idx → EReal := m (c.tc.loc main_arg0)
def boxes : S2x128x4.Idx → EReal := m (c.tc.loc main_arg1)

set_option maxHeartbeats 8000000 in
/-- The reference's result is the least upper bound of the entries whose row and column lie in the box. -/
theorem res_le (b : Fin 2) (n : Fin 128) (h : Fin 512) (u : EReal) :
    res m c (ix3 b n h) ≤ u ↔ ∀ (p : Fin 50) (q : Fin 64),
      insideBit (boxY1 (F := Ideal) (boxes m c (ix3 b n 1))) (boxY2 (F := Ideal) (boxes m c (ix3 b n 1)) (boxes m c (ix3 b n 3)))
        (boxX1 (F := Ideal) (boxes m c (ix3 b n 0))) (boxX2 (F := Ideal) (boxes m c (ix3 b n 0)) (boxes m c (ix3 b n 2)))
        (BitVec.ofNat 32 p.val) (BitVec.ofNat 32 q.val) = 1#1 → feat m c (ix4 b h p q) ≤ u := by
  have hbot : Ideal.ofBits FTy.f32 0xFF800000#32 = ⊥ := by simp [Ideal.ofBits, Ideal.ieee]
  have hsel : ∀ (k : BitVec 1) (x : EReal), Scalar.select k x ⊥ ≤ u ↔ (k = 1#1 → x ≤ u) := fun k x => by
    unfold Scalar.select
    by_cases hk : k = 1
    · simp [hk]
    · rw [if_neg hk]; exact ⟨fun _ e => absurd e hk, fun _ => bot_le⟩
  unfold res Cert.ReferenceIdeal.Value.res_main_v85
  rw [reduce_le]
  pointwise
  simp only [hbot, bot_le, true_and, hsel]
  rfl

end Cert.ReferenceIdeal.Pool
-- ==== Proof.Corners.lean ====
module
public import proofs.«01_k».proof.Proof.Coords
public import Idealize.ShloMosaic.PureOps.Ideal.Laws

@[expose] public section

set_option maxRecDepth 16384

noncomputable section

/-! # The corners on the extended reals, for a box that fits the window -/

namespace Cert.RoiBox

open Idealize.ShloMosaic Idealize.ShloMosaic.WordCmp

theorem lit_1024 : Ideal.ofBits .f32 0x44800000#32 = ((1024 : ℝ) : EReal) := by simp [Ideal.ofBits, Ideal.ieee, -EReal.coe_mul]; norm_num
theorem lit_800 : Ideal.ofBits .f32 0x44480000#32 = ((800 : ℝ) : EReal) := by simp [Ideal.ofBits, Ideal.ieee, -EReal.coe_mul]; norm_num
theorem lit_64 : Ideal.ofBits .f32 0x42800000#32 = ((64 : ℝ) : EReal) := by simp [Ideal.ofBits, Ideal.ieee, -EReal.coe_mul]; norm_num
theorem lit_50 : Ideal.ofBits .f32 0x42480000#32 = ((50 : ℝ) : EReal) := by simp [Ideal.ofBits, Ideal.ieee, -EReal.coe_mul]; norm_num

/-- Dividing by `d` and multiplying by `k`, both positive reals, on a real and on the infinities. -/
theorem scaled_real {d k : BitVec 32} {p q : ℝ} (hd : Ideal.ofBits .f32 d = (p : EReal)) (hk : Ideal.ofBits .f32 k = (q : EReal))
    (hp : 0 < p) (hq : 0 < q) (r : ℝ) : (scaled (F := Ideal) d k (r : EReal) : EReal) = ((r / p * q : ℝ) : EReal) := by
  show Ideal.div (r : EReal) (Ideal.ofBits .f32 d) * Ideal.ofBits .f32 k = _
  rw [hd, hk]
  unfold Ideal.div
  rw [if_neg (by exact_mod_cast hp.ne'), ← EReal.coe_inv, ← EReal.coe_mul, ← EReal.coe_mul, div_eq_mul_inv]

theorem scaled_top {d k : BitVec 32} {p q : ℝ} (hd : Ideal.ofBits .f32 d = (p : EReal)) (hk : Ideal.ofBits .f32 k = (q : EReal))
    (hp : 0 < p) (hq : 0 < q) : (scaled (F := Ideal) d k (⊤ : EReal) : EReal) = ⊤ := by
  show Ideal.div (⊤ : EReal) (Ideal.ofBits .f32 d) * Ideal.ofBits .f32 k = _
  rw [hd, hk]
  unfold Ideal.div
  rw [if_neg (by exact_mod_cast hp.ne'), ← EReal.coe_inv, EReal.top_mul_coe_of_pos (inv_pos.2 hp), EReal.top_mul_coe_of_pos hq]

theorem scaled_bot {d k : BitVec 32} {p q : ℝ} (hd : Ideal.ofBits .f32 d = (p : EReal)) (hk : Ideal.ofBits .f32 k = (q : EReal))
    (hp : 0 < p) (hq : 0 < q) : (scaled (F := Ideal) d k (⊥ : EReal) : EReal) = ⊥ := by
  show Ideal.div (⊥ : EReal) (Ideal.ofBits .f32 d) * Ideal.ofBits .f32 k = _
  rw [hd, hk]
  unfold Ideal.div
  rw [if_neg (by exact_mod_cast hp.ne'), ← EReal.coe_inv, EReal.bot_mul_coe_of_pos (inv_pos.2 hp), EReal.bot_mul_coe_of_pos hq]

/-- A whole real converted to a word and clipped below at zero is the integer clipped to the non-negative words. -/
theorem clip_whole (z : ℤ) : ((IntOp.maxsi 0#32 (Ideal.fptosi 32 (((z : ℝ) : ℝ) : EReal))).toNat : ℤ) = max 0 (min (2 ^ 31 - 1) z) := by
  rw [clip_toInt]
  have e : Ideal.toIntClamped (-(2 ^ (32 - 1) : ℕ)) ((2 ^ (32 - 1) : ℕ) - 1) (((z : ℝ) : ℝ) : EReal)
      = max (-(2 ^ 31)) (min (2 ^ 31 - 1) z) := by
    show max _ (min _ (if 0 ≤ (z : ℝ) then ⌊(z : ℝ)⌋ else ⌈(z : ℝ)⌉)) = _
    rw [Int.floor_intCast, Int.ceil_intCast, ite_self]; rfl
  unfold Ideal.fptosi
  rw [e, BitVec.toInt_ofInt, Int.bmod_eq_of_le (by omega) (by omega)]
  omega

theorem clip_top : (IntOp.maxsi 0#32 (Ideal.fptosi 32 (⊤ : EReal))).toNat = 2 ^ 31 - 1 := by
  have e : Ideal.fptosi 32 (⊤ : EReal) = BitVec.ofInt 32 ((2 ^ (32 - 1) : ℕ) - 1) := rfl
  rw [e]; decide

theorem clip_bot : (IntOp.maxsi 0#32 (Ideal.fptosi 32 (⊥ : EReal))).toNat = 0 := by
  have e : Ideal.fptosi 32 (⊥ : EReal) = BitVec.ofInt 32 (-(2 ^ (32 - 1) : ℕ)) := rfl
  rw [e]; decide

section
variable {d k : BitVec 32} {p q : ℝ} (hd : Ideal.ofBits .f32 d = (p : EReal)) (hk : Ideal.ofBits .f32 k = (q : EReal))
  (hp : 0 < p) (hq : 0 < q)
include hd hk hp hq

theorem lowWord_real (r : ℝ) : ((lowWord (F := Ideal) d k (r : EReal)).toNat : ℤ) = max 0 (min (2 ^ 31 - 1) ⌊r / p * q⌋) := by
  have e : lowWord (F := Ideal) d k (r : EReal) = IntOp.maxsi 0#32 (Ideal.fptosi 32 (Ideal.liftRound Int.floor (scaled (F := Ideal) d k (r : EReal)))) := rfl
  rw [e, scaled_real hd hk hp hq]
  exact clip_whole _

theorem highWord_real (r : ℝ) : ((highWord (F := Ideal) d k (r : EReal)).toNat : ℤ) = max 0 (min (2 ^ 31 - 1) ⌈r / p * q⌉) := by
  have e : highWord (F := Ideal) d k (r : EReal) = IntOp.maxsi 0#32 (Ideal.fptosi 32 (Ideal.liftRound Int.ceil (scaled (F := Ideal) d k (r : EReal)))) := rfl
  rw [e, scaled_real hd hk hp hq]
  exact clip_whole _

theorem lowWord_top : (lowWord (F := Ideal) d k (⊤ : EReal)).toNat = 2 ^ 31 - 1 := by
  have e : lowWord (F := Ideal) d k (⊤ : EReal) = IntOp.maxsi 0#32 (Ideal.fptosi 32 (Ideal.liftRound Int.floor (scaled (F := Ideal) d k (⊤ : EReal)))) := rfl
  rw [e, scaled_top hd hk hp hq]
  exact clip_top

theorem highWord_bot : (highWord (F := Ideal) d k (⊥ : EReal)).toNat = 0 := by
  have e : highWord (F := Ideal) d k (⊥ : EReal) = IntOp.maxsi 0#32 (Ideal.fptosi 32 (Ideal.liftRound Int.ceil (scaled (F := Ideal) d k (⊥ : EReal)))) := rfl
  rw [e, scaled_bot hd hk hp hq]
  exact clip_bot
end

theorem low_lt {F : FTy → Type} [FloatOps F] (d k : BitVec 32) (a : F .f32) : (lowWord d k a).toNat < 2 ^ 31 := clip_lt _
theorem high_lt {F : FTy → Type} [FloatOps F] (d k : BitVec 32) (a : F .f32) : (highWord d k a).toNat < 2 ^ 31 := clip_lt _

/-- A box of positive height at most 96 has a row of the map, and its rows are among the seven from its first. -/
theorem rows_fit {t b : EReal} (h1 : t < b) (h2 : b ≤ t + ((96 : ℝ) : EReal)) :
    min (lowWord (F := Ideal) 0x44480000#32 0x42480000#32 t).toNat 49 < min (boxY2 (F := Ideal) t b).toNat 50
      ∧ min (boxY2 (F := Ideal) t b).toNat 50 ≤ min (lowWord (F := Ideal) 0x44480000#32 0x42480000#32 t).toNat 49 + 7 := by
  induction t with
  | bot => rw [EReal.bot_add] at h2; exact absurd (h1.trans_le h2) (lt_irrefl _)
  | top => exact absurd h1 not_top_lt
  | coe t =>
    induction b with
    | bot => exact absurd h1 not_lt_bot
    | top => rw [← EReal.coe_add] at h2; exact absurd h2 (not_le.2 (EReal.coe_lt_top _))
    | coe b =>
      rw [← EReal.coe_add, EReal.coe_le_coe_iff] at h2
      rw [EReal.coe_lt_coe_iff] at h1
      have hl := lowWord_real lit_800 lit_50 (by norm_num) (by norm_num) t
      have hh := highWord_real lit_800 lit_50 (by norm_num) (by norm_num) b
      have c1 : ⌊t / 800 * 50⌋ < ⌈b / 800 * 50⌉ :=
        Int.floor_lt.2 (lt_of_lt_of_le (by linarith) (Int.le_ceil _))
      have c2 : ⌈b / 800 * 50⌉ ≤ ⌊t / 800 * 50⌋ + 7 := by
        refine Int.ceil_le.2 ?_
        have := Int.lt_floor_add_one (t / 800 * 50)
        push_cast
        linarith
      unfold boxY2
      rw [endWord_toNat (high_lt _ _ _)]
      split <;> omega

/-- A box at most 128 wide has its columns among the sixteen of the window, or the window is the map's last. -/
theorem columns_fit {l r : EReal} (h : r ≤ l + ((128 : ℝ) : EReal)) :
    (boxX2 (F := Ideal) l r).toNat ≤ min (min (lowWord (F := Ideal) 0x44800000#32 0x42800000#32 l).toNat 63 / 8 * 8) 48 + 16
      ∨ min (min (lowWord (F := Ideal) 0x44800000#32 0x42800000#32 l).toNat 63 / 8 * 8) 48 = 48 := by
  have hbot : ∀ l : EReal, (boxX2 (F := Ideal) l ⊥).toNat ≤ 1 := fun l => by
    unfold boxX2
    rw [endWord_toNat (high_lt _ _ _), highWord_bot lit_1024 lit_64 (by norm_num) (by norm_num)]
    split <;> omega
  induction l with
  | bot => rw [EReal.bot_add, le_bot_iff] at h; rw [h]; left; have := hbot ⊥; omega
  | top => right; rw [lowWord_top lit_1024 lit_64 (by norm_num) (by norm_num)]; decide
  | coe l =>
    induction r with
    | bot => left; have := hbot l; omega
    | top => rw [← EReal.coe_add] at h; exact absurd h (not_le.2 (EReal.coe_lt_top _))
    | coe r =>
      rw [← EReal.coe_add, EReal.coe_le_coe_iff] at h
      have hl := lowWord_real lit_1024 lit_64 (by norm_num) (by norm_num) l
      have hh := highWord_real lit_1024 lit_64 (by norm_num) (by norm_num) r
      have c2 : ⌈r / 1024 * 64⌉ ≤ ⌊l / 1024 * 64⌋ + 9 := by
        refine Int.ceil_le.2 ?_
        have := Int.lt_floor_add_one (l / 1024 * 64)
        push_cast
        linarith
      unfold boxX2
      rw [endWord_toNat (high_lt _ _ _)]
      split <;> omega

end Cert.RoiBox
-- ==== Proof.Fits.lean ====
module
public import proofs.«01_k».proof.Proof.Corners
public import proofs.«01_k».proof.Pre_boxes_fit
public import proofs.«01_k».proof.Proof.Gen.Pre_boxes_fit
public import Idealize.ShloMosaic.Lib.ReduceAll
public import Idealize.ShloMosaic.Lib.Pointwise

@[expose] public section

set_option maxRecDepth 16384

noncomputable section

/-! # What the precondition says of one box -/

namespace Cert.RoiBox

open Idealize.ShloMosaic Idealize.ShloMosaic.WordCmp Idealize.ShloMosaic.Tactic
open Cert.Pre_boxes_fit

theorem lit_128 : Ideal.ofBits .f32 0x43000000#32 = ((128 : ℝ) : EReal) := by simp [Ideal.ofBits, Ideal.ieee, -EReal.coe_mul]; norm_num
theorem lit_96 : Ideal.ofBits .f32 0x42C00000#32 = ((96 : ℝ) : EReal) := by simp [Ideal.ofBits, Ideal.ieee, -EReal.coe_mul]; norm_num

/-- Two bits are both set where their conjunction is. -/
theorem andi_one {a b : BitVec 1} (h : IntOp.andi a b = 1#1) : a = 1#1 ∧ b = 1#1 := by
  revert a b; decide

/-- Where the boxes fit, each is at most 128 wide, of positive height, and at most 96 high. -/
theorem box_fits (f : FVec Ideal S2x512x50x64 .f32) (r : S2x128x4.Idx → EReal) (h : fn (F := Ideal) f r = fun _ => 1#1) (b : Fin 2) (n : Fin 128) :
    r (ix3 b n 2) ≤ r (ix3 b n 0) + ((128 : ℝ) : EReal) ∧ r (ix3 b n 1) < r (ix3 b n 3) ∧ r (ix3 b n 3) ≤ r (ix3 b n 1) + ((96 : ℝ) : EReal) := by
  have h0 := congrFun h (fun a => a.elim0)
  unfold fn fn_part1 at h0
  have h1 := Host.reduce_andi_all _ _ _ _ _ h0 (ix2 b n)
  obtain ⟨ha, hb⟩ := andi_one h1
  obtain ⟨hb, hc⟩ := andi_one hb
  rw [← lit_128, ← lit_96]
  refine ⟨?_, ?_, ?_⟩
  · revert ha; pointwise; exact fun ha => (bit_iff _).1 ha
  · revert hb; pointwise; exact fun ha => (bit_iff _).1 ha
  · revert hc; pointwise; exact fun ha => (bit_iff _).1 ha

end Cert.RoiBox
-- ==== Proof.Window.lean ====
module
public import proofs.«01_k».proof.Proof.Coords

@[expose] public section

/-! # The window covers the box and nothing else -/

namespace Cert.RoiBox

/-- Asking a property of the window's entries in the lanes inside the box is asking it of the box's entries: a row past the
    box's height is its first row again. -/
theorem window_iff {x1 x2 y1 y2 xs : ℕ} (P : ℕ → ℕ → Prop) (h1 : y1 < min y2 50) (h2 : min y2 50 ≤ y1 + 7)
    (hx : x2 ≤ xs + 16 ∨ xs = 48) (hs : xs ≤ x1) (hl : xs ≤ 48) :
    (∀ j : Fin 16, (xs + j.val < x1 ∨ x2 ≤ xs + j.val) ∨ ∀ k < 7, P (y1 + if y1 + k < min y2 50 then k else 0) (xs + j.val))
      ↔ ∀ (p : Fin 50) (q : Fin 64), (y1 ≤ p.val ∧ p.val < y2) ∧ x1 ≤ q.val ∧ q.val < x2 → P p.val q.val := by
  constructor
  · rintro hw p q ⟨⟨a1, a2⟩, a3, a4⟩
    have hp := p.isLt
    have hq := q.isLt
    have hj := (hw ⟨q.val - xs, by omega⟩).resolve_left (by dsimp only; omega) (p.val - y1) (by omega)
    rw [if_pos (by omega)] at hj
    dsimp only at hj
    rwa [show y1 + (p.val - y1) = p.val by omega, show xs + (q.val - xs) = q.val by omega] at hj
  · intro hb j
    by_cases hc : xs + j.val < x1 ∨ x2 ≤ xs + j.val
    · exact Or.inl hc
    · have hj := j.isLt
      refine Or.inr fun k hk => ?_
      split
      · exact hb ⟨y1 + k, by omega⟩ ⟨xs + j.val, by omega⟩ (by dsimp only; omega)
      · exact hb ⟨y1 + 0, by omega⟩ ⟨xs + j.val, by omega⟩ (by dsimp only; omega)

end Cert.RoiBox
-- ==== Proof.Equal.lean ====
module
public import proofs.«01_k».proof.Proof.Fit
public import proofs.«01_k».proof.Proof.Out
public import proofs.«01_k».proof.Proof.RowValue
public import proofs.«01_k».proof.Proof.RefValue
public import proofs.«01_k».proof.Proof.Fits
public import proofs.«01_k».proof.Proof.Window

@[expose] public section

set_option maxRecDepth 16384

noncomputable section

namespace Cert.KernelIdeal.Pool

open Cert.KernelIdeal.Gen
open Idealize.ShloMosaic Idealize.ShloMosaic.TcCoe Idealize.ShloMosaic.Tactic

open Cert.RoiBox

variable (m : (ℓ : Loc nD τ sig) → Buf (Elt Ideal) ℓ) (c : Dev nD) (b : Fin 2) (n : Fin 128)

/-! # The kernel's result is the reference's -/

/-- The features, the boxes and the result, as extended reals. -/
def feats : S2x512x50x64.Idx → EReal := m (c, Proc.tc.devRef main_arg0)
def rois : S2x128x4.Idx → EReal := m (c, Proc.tc.devRef main_arg1)
def out : S2x128x512.Idx → EReal := result m c

/-- A word of the table, at a box in range. -/
theorem word_eq (j : ℕ) (hj : j < 16) : word (tbl m 0) b.val n.val j = tbl m 0 (ix3 b n ⟨j, hj⟩) := by
  have e1 : Fin.ofNat 2 b.val = b := Fin.ext (Nat.mod_eq_of_lt b.isLt)
  have e2 : Fin.ofNat 128 n.val = n := Fin.ext (Nat.mod_eq_of_lt n.isLt)
  have e3 : Fin.ofNat 16 j = ⟨j, hj⟩ := Fin.ext (Nat.mod_eq_of_lt hj)
  unfold word
  rw [e1, e2, e3]

/-- The window's entry in row `k` and lane `j` is the map's at the box's row, or its first, and the window's column. -/
theorem slab_eq (k : ℕ) (hk : k < 7) (j : Fin 16) (h : Fin 512) :
    slab (image (V m c main_v88) b.val) (word (tbl m 0) b.val n.val k).toNat (ix3 0 j h)
      = feats m c (ix4 b h (Fin.ofNat 50 (ny1 m c b n + if ny1 m c b n + k < min (ny2 m c b n) 50 then k else 0))
          (Fin.ofNat 64 (nxs m c b n + j.val))) := by
  have hf := (nrow_fits m c b n hk).2
  have hy := ny1_le m c b n
  have hx := nxs_le m c b n
  have hj := j.isLt
  have e1 : Fin.ofNat 2 b.val = b := Fin.ext (Nat.mod_eq_of_lt b.isLt)
  rw [word_eq m b n k (by omega), tab_row m c b n hk, WordCmp.toNat_ofNat_of_lt (by omega)]
  change V m c main_v88 (ix3 (Fin.ofNat 2 b.val) (Fin.ofNat 3200 (nrow m c b n k + j.val)) h) = _
  rw [e1, V_map]
  change m (c, Proc.tc.devRef main_arg0) _ = m (c, Proc.tc.devRef main_arg0) _
  have e2 : (Fin.ofNat 3200 (nrow m c b n k + j.val)).val = nrow m c b n k + j.val := Nat.mod_eq_of_lt (by omega)
  congr 2
  · refine Fin.ext ?_
    show (Fin.ofNat 3200 (nrow m c b n k + j.val)).val / 64 = _ % 50
    rw [e2]; unfold nrow; split <;> omega
  · refine Fin.ext ?_
    show (Fin.ofNat 3200 (nrow m c b n k + j.val)).val % 64 = _ % 64
    rw [e2]; unfold nrow; split <;> omega

/-- The kernel's result is the least upper bound of the window's entries in the lanes inside the box. -/
theorem out_le (h : Fin 512) (u : EReal) :
    out m c (ix3 b n h) ≤ u ↔ ∀ j : Fin 16, (nxs m c b n + j.val < nx1 m c b n ∨ nx2 m c b n ≤ nxs m c b n + j.val)
      ∨ ∀ k < 7, feats m c (ix4 b h (Fin.ofNat 50 (ny1 m c b n + if ny1 m c b n + k < min (ny2 m c b n) 50 then k else 0))
          (Fin.ofNat 64 (nxs m c b n + j.val))) ≤ u := by
  refine (roiRow_le (image (V m c main_v88) b.val) (word (tbl m 0) b.val n.val) h u).trans (forall_congr' fun j => or_congr ?_ ?_)
  · obtain rfl : c = 0 := Subsingleton.elim _ _
    have hv := (V_tab m 0 b n 0).2
    rw [word_eq m b n 8 (by omega), word_eq m b n 9 (by omega)]
    have e8 : tbl m 0 (ix3 b n ⟨8, by omega⟩) = IntOp.subi (x1 m 0 b n) (xs m 0 b n) := hv.1
    have e9 : tbl m 0 (ix3 b n ⟨9, by omega⟩) = IntOp.subi (x2 m 0 b n) (xs m 0 b n) := hv.2
    rw [e8, e9, x1_eq, xs_eq]
    exact outside_iff (nx1_le m 0 b n) (x2_lt m 0 b n) (nxs_le m 0 b n) j.isLt
  · exact forall_congr' fun k => forall_congr' fun hk => by rw [slab_eq m c b n k hk j h]

variable (m' : (ℓ : Loc Cert.ReferenceIdeal.nD Cert.ReferenceIdeal.τ Cert.ReferenceIdeal.sig) → Buf (Elt Ideal) ℓ)

/-- The reference's result, on the same features and boxes, in the kernel's numbers. -/
theorem res_le' (hf : Cert.ReferenceIdeal.Pool.feat m' c = feats m c) (hr : Cert.ReferenceIdeal.Pool.boxes m' c = rois m c)
    (h : Fin 512) (u : EReal) :
    Cert.ReferenceIdeal.Pool.res m' c (ix3 b n h) ≤ u ↔ ∀ (p : Fin 50) (q : Fin 64),
      (ny1 m c b n ≤ p.val ∧ p.val < ny2 m c b n) ∧ nx1 m c b n ≤ q.val ∧ q.val < nx2 m c b n
        → feats m c (ix4 b h (Fin.ofNat 50 p.val) (Fin.ofNat 64 q.val)) ≤ u := by
  refine (Cert.ReferenceIdeal.Pool.res_le m' c b n h u).trans (forall_congr' fun p => forall_congr' fun q => ?_)
  have e1 : Fin.ofNat 50 p.val = p := Fin.ext (Nat.mod_eq_of_lt p.isLt)
  have e2 : Fin.ofNat 64 q.val = q := Fin.ext (Nat.mod_eq_of_lt q.isLt)
  rw [hf, hr, e1, e2]
  refine imp_congr ?_ Iff.rfl
  change insideBit (y1 m c b n) (y2 m c b n) (x1 m c b n) (x2 m c b n) _ _ = 1#1 ↔ _
  rw [x1_eq, y1_eq]
  exact insideBit_iff (ny1_le m c b n) (y2_lt m c b n) (nx1_le m c b n) (x2_lt m c b n) p.isLt q.isLt

/-- Where the boxes fit the window, the results agree at every entry. -/
theorem equal (hf : Cert.ReferenceIdeal.Pool.feat m' c = feats m c) (hr : Cert.ReferenceIdeal.Pool.boxes m' c = rois m c)
    (hp : Cert.Pre_boxes_fit.fn (F := Ideal) (feats m c) (rois m c) = fun _ => 1#1) :
    Cert.ReferenceIdeal.Pool.res m' c = out m c := by
  funext i
  obtain ⟨b, n, h, rfl⟩ : ∃ (b : Fin 2) (n : Fin 128) (h : Fin 512), i = ix3 b n h := ⟨i 0, i 1, i 2, by
    funext a
    match a with
    | ⟨0, _⟩ => rfl
    | ⟨1, _⟩ => rfl
    | ⟨2, _⟩ => rfl⟩
  obtain ⟨g1, g2, g3⟩ := box_fits (feats m c) (rois m c) hp b n
  obtain ⟨r1, r2⟩ := rows_fit g2 g3
  refine eq_of_forall_ge_iff fun u => ?_
  rw [res_le' m c b n m' hf hr h u, out_le]
  exact (window_iff (fun p q => feats m c (ix4 b h (Fin.ofNat 50 p) (Fin.ofNat 64 q)) ≤ u) r1 r2 (columns_fit g1)
    (show nxs m c b n ≤ nx1 m c b n by unfold nxs; omega) (nxs_le m c b n)).symm

end Cert.KernelIdeal.Pool
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_boxes_fit
public import proofs.«01_k».proof.Proof.Same
public import proofs.«01_k».proof.Proof.Equal
public import Idealize.ShloMosaic.Adequacy
public import Idealize.ShloMosaic.Init

@[expose] public section

set_option maxRecDepth 65536
set_option maxHeartbeats 0

noncomputable section

namespace Cert.Proof

open Idealize.ShloMosaic Idealize.ShloMosaic.TcCoe Idealize.SL.Sem

/-- The kernel runs on machine floats, leaves its arguments as they were and every semaphore at zero. -/
theorem frame_kernel : Cert.quiescent_Kernel := by
  intro m g _
  rw [defs_eq, main_eq]
  exact (θ_run _ _ _).mono (fun r h => ⟨fun c => (h.1 c).2, h.2⟩)
    (Cert.KernelIdeal.Pool.run (F := Bits) m g (Cert.KernelIdeal.Pool.fit m))

/-- So it does on the extended reals. -/
theorem frame_ideal : Cert.quiescent_KernelIdeal := fun m g _ =>
  (θ_run _ _ _).mono (fun _ h => ⟨fun c => (h.1 c).2, h.2⟩)
    (Cert.KernelIdeal.Pool.run m g (Cert.KernelIdeal.Pool.fit m))

/-- The reference runs, leaves its arguments as they were, and has no semaphore. -/
theorem frame_reference : Cert.quiescent_ReferenceIdeal := fun m g _ =>
  (θ_run _ _ _).mono (fun r h => ⟨fun c => (h c).2, Idealize.ShloMosaic.sem_eq_zero_of_no_sems (by decide) r.2⟩)
    (Cert.ReferenceIdeal.Value.run m g)

/-- The kernel's result is the reference's wherever the boxes fit the window. -/
theorem value : Cert.algebraic_KernelIdeal_ReferenceIdeal_pre_boxes_fit := by
  intro m g m' g' hpre hagree
  refine ⟨Cert.KernelIdeal.Pool.result m, ?_, ?_⟩
  · exact (θ_run _ _ _).mono (fun _ h c => h.1 c) (Cert.KernelIdeal.Pool.run m g (Cert.KernelIdeal.Pool.fit m))
  · refine (θ_run _ _ _).mono (fun _ h c => ⟨(h c).1.trans ?_, (h c).2⟩) (Cert.ReferenceIdeal.Value.run m' g')
    exact Cert.KernelIdeal.Pool.equal m c m' (hagree c).1 (hagree c).2 (hpre c)

theorem claim : Cert.Claim :=
  ⟨Cert.Kernel.Gen.facts, Cert.KernelIdeal.Gen.facts, Cert.ReferenceIdeal.Gen.facts, Cert.Pre_boxes_fit.Gen.facts,
    frame_kernel, frame_ideal, fun m g _ => frame_ideal m g trivial, frame_reference, fun m g _ => frame_reference m g trivial,
    trivial, value⟩

end Cert.Proof

end
